-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_ok [hPre_weights_ok : Cert.Pre_weights_ok.Facts] (m : (ℓ : Loc Cert.KernelIdeal.nD Cert.KernelIdeal.τ Cert.KernelIdeal.sig) → Buf (Elt Ideal) ℓ) : Prop :=
  ∀ c : Dev Cert.KernelIdeal.nD,
    (Cert.Pre_weights_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_ok [hPre_weights_ok : Cert.Pre_weights_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_weights_ok [hKernelIdeal : Cert.KernelIdeal.Facts] [hPre_weights_ok : Cert.Pre_weights_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_weights_ok [hReferenceIdeal : Cert.ReferenceIdeal.Facts] [hPre_weights_ok : Cert.Pre_weights_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_weights_ok [hKernelIdeal : Cert.KernelIdeal.Facts] [hReferenceIdeal : Cert.ReferenceIdeal.Facts] [hPre_weights_ok : Cert.Pre_weights_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_weights_ok : Cert.Pre_weights_ok.Facts),
    quiescent_Kernel (hKernel := hKernel)
    ∧ quiescent_KernelIdeal (hKernelIdeal := hKernelIdeal)
    ∧ quiescent_KernelIdeal_pre_weights_ok (hKernelIdeal := hKernelIdeal) (hPre_weights_ok := hPre_weights_ok)
    ∧ quiescent_ReferenceIdeal (hReferenceIdeal := hReferenceIdeal)
    ∧ quiescent_ReferenceIdeal_pre_weights_ok (hReferenceIdeal := hReferenceIdeal) (hPre_weights_ok := hPre_weights_ok)
    ∧ preserves_Kernel_KernelIdeal
    ∧ algebraic_KernelIdeal_ReferenceIdeal_pre_weights_ok (hKernelIdeal := hKernelIdeal) (hReferenceIdeal := hReferenceIdeal) (hPre_weights_ok := hPre_weights_ok)
-- ==== Pre_weights_ok.lean ====
abbrev S256x4096x32 : Shape := ⟨3, ![256, 4096, 32]⟩
abbrev S256x4096 : Shape := ⟨2, ![256, 4096]⟩
abbrev S_ : Shape := ⟨0, ![]⟩

class Facts : Prop where
  bcast_S_S256x4096 : S_.BroadcastsInDim S256x4096 (![] : Fin 0 → Fin S256x4096.rank)

variable [Facts]

def fn {F : FTy → Type} [FloatOps F] (main_arg0 : FVec F S256x4096x32 .f32) (main_arg1 : FVec F S256x4096 .f32) : IVec S256x4096 1 :=
  let main_cst : FVec F S_ .f32 := constant S_ .f32 0x00000000#32
  let main_v0 : FVec F S256x4096 .f32 := broadcastInDim S256x4096 ![] bcast_S_S256x4096 main_cst
  let main_v1 : IVec S256x4096 1 := cmpf .oge main_arg1 main_v0
  let main_cst_0 : FVec F S_ .f32 := constant S_ .f32 0x7F800000#32
  let main_v2 : FVec F S256x4096 .f32 := broadcastInDim S256x4096 ![] bcast_S_S256x4096 main_cst_0
  let main_v3 : IVec S256x4096 1 := cmpf .olt main_arg1 main_v2
  let main_v4 : IVec S256x4096 1 := andi main_v1 main_v3
  main_v4
-- ==== Kernel.lean ====
abbrev S256x4096x32 : Shape := ⟨3, ![256, 4096, 32]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S256x32x4096 : Shape := ⟨3, ![256, 32, 4096]⟩
abbrev S8192x32x128 : Shape := ⟨3, ![8192, 32, 128]⟩
abbrev S256x32x128 : Shape := ⟨3, ![256, 32, 128]⟩
abbrev S32x128 : Shape := ⟨2, ![32, 128]⟩
abbrev S4096 : Shape := ⟨1, ![4096]⟩
abbrev S8x32x128 : Shape := ⟨3, ![8, 32, 128]⟩
abbrev S16 : Shape := ⟨1, ![16]⟩
abbrev S1x16 : Shape := ⟨2, ![1, 16]⟩
abbrev S32x32x128 : Shape := ⟨3, ![32, 32, 128]⟩
abbrev S1x32x128 : Shape := ⟨3, ![1, 32, 128]⟩
abbrev S1x1x16 : Shape := ⟨3, ![1, 1, 16]⟩

abbrev nBuf : Table → Nat
  | .hbm => 27
  | .local .scVector .vmem => 6
  | _ => 0

abbrev bufTy : (tb : Table) → Fin (nBuf tb) → BufTy
  | .hbm, ⟨0, _⟩ => ⟨S256x4096x32, .f32⟩
  | .hbm, ⟨1, _⟩ => ⟨S256x4096, .f32⟩
  | .hbm, ⟨2, _⟩ => ⟨S256x4096, .f32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .i1⟩
  | .hbm, ⟨11, _⟩ => ⟨S256, .i32⟩
  | .hbm, ⟨12, _⟩ => ⟨S_, .f32⟩
  | .hbm, ⟨13, _⟩ => ⟨S_, .f32⟩
  | .hbm, ⟨14, _⟩ => ⟨S256x4096, .f32⟩
  | .hbm, ⟨15, _⟩ => ⟨S256x1, .f32⟩
  | .hbm, ⟨16, _⟩ => ⟨S256x4096, .f32⟩
  | .hbm, ⟨17, _⟩ => ⟨S256x4096, .f32⟩
  | .hbm, ⟨18, _⟩ => ⟨S256x32x4096, .f32⟩
  | .hbm, ⟨19, _⟩ => ⟨S8192x32x128, .f32⟩
  | .hbm, ⟨20, _⟩ => ⟨S256x32x128, .f32⟩
  | .hbm, ⟨21, _⟩ => ⟨S256x32x128, .f32⟩
  | .hbm, ⟨22, _⟩ => ⟨S8192x32x128, .f32⟩
  | .hbm, ⟨23, _⟩ => ⟨S256x32x128, .f32⟩
  | .hbm, ⟨24, _⟩ => ⟨S256x32x4096, .f32⟩
  | .hbm, ⟨25, _⟩ => ⟨S256x4096x32, .f32⟩
  | .hbm, ⟨26, _⟩ => ⟨S256x4096, .f32⟩
  | .local .scVector .vmem, ⟨0, _⟩ => ⟨S32x128, .f32⟩
  | .local .scVector .vmem, ⟨1, _⟩ => ⟨S4096, .i32⟩
  | .local .scVector .vmem, ⟨2, _⟩ => ⟨S32x128, .f32⟩
  | .local .scVector .vmem, ⟨3, _⟩ => ⟨S256, .i32⟩
  | .local .scVector .vmem, ⟨4, _⟩ => ⟨S8x32x128, .f32⟩
  | .local .scVector .vmem, ⟨5, _⟩ => ⟨S8x32x128, .f32⟩
  | _, _ => ⟨S256x4096x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v12_scv : Ref sig .scVector := ⟨.hbm, 19, rfl⟩
abbrev main_v13_scv : Ref sig .scVector := ⟨.hbm, 20, rfl⟩
abbrev main_v14_scv : Ref sig .scVector := ⟨.hbm, 21, rfl⟩
abbrev main_v6_scv : Ref sig .scVector := ⟨.hbm, 11, rfl⟩
abbrev main_v15_0_scv : Ref sig .scVector := ⟨.hbm, 22, rfl⟩
abbrev main_v15_1_scv : Ref sig .scVector := ⟨.hbm, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k0_off1 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let c0_i32_7 : BitVec 32 := 0#32
  let v8 : BitVec 1 := Scalar.cmpi .sgt arg14 c0_i32_7
  let v9 : BitVec 32 := Scalar.extui v8
  let c0_i32_8 : BitVec 32 := 0#32
  let v10 : BitVec 1 := Scalar.cmpi .slt arg14 c0_i32_8
  let v11 : BitVec 32 := Scalar.extui v10
  let v12 : BitVec 32 := Scalar.subi v9 v11
  let c8_i32_6 : BitVec 32 := 8#32
  let c0_i32_9 : BitVec 32 := 0#32
  let v13 : BitVec 1 := Scalar.cmpi .sgt c8_i32_6 c0_i32_9
  let v14 : BitVec 32 := Scalar.extui v13
  let c0_i32_10 : BitVec 32 := 0#32
  let v15 : BitVec 1 := Scalar.cmpi .slt c8_i32_6 c0_i32_10
  let v16 : BitVec 32 := Scalar.extui v15
  let v17 : BitVec 32 := Scalar.subi v14 v16
  let v18 : BitVec 1 := Scalar.cmpi .ne v12 v17
  let v19 : BitVec 32 := Scalar.remsi arg14 c8_i32_6
  let c0_i32_11 : BitVec 32 := 0#32
  let v20 : BitVec 1 := Scalar.cmpi .ne v19 c0_i32_11
  let v21 : BitVec 1 := Scalar.andi v18 v20
  let v7 : BitVec 32 := Scalar.divsi arg14 c8_i32_6
  let c1_i32_12 : BitVec 32 := 1#32
  let v22 : BitVec 32 := Scalar.subi v7 c1_i32_12
  let v23 : BitVec 32 := Scalar.select v21 v22 v7
  let v35 : Index := Scalar.indexCast v23
  let c8_i32_13 : BitVec 32 := 8#32
  let c0_i32_14 : BitVec 32 := 0#32
  let v24 : BitVec 1 := Scalar.cmpi .eq c8_i32_13 c0_i32_14
  let c1_i32_15 : BitVec 32 := 1#32
  let v25 : BitVec 32 := Scalar.select v24 c1_i32_15 c8_i32_13
  let v26 : BitVec 32 := Scalar.remsi arg14 v25
  let c0_i32_17 : BitVec 32 := 0#32
  let v28 : BitVec 1 := Scalar.cmpi .slt v26 c0_i32_17
  let c0_i32_18 : BitVec 32 := 0#32
  let v29 : BitVec 1 := Scalar.cmpi .slt v25 c0_i32_18
  let v30 : BitVec 1 := Scalar.xori v28 v29
  let c0_i32_16 : BitVec 32 := 0#32
  let v27 : BitVec 1 := Scalar.cmpi .ne v26 c0_i32_16
  let v31 : BitVec 1 := Scalar.andi v30 v27
  let v32 : BitVec 32 := Scalar.addi v26 v25
  let v33 : BitVec 32 := Scalar.select v31 v32 v26
  let c16_i32 : BitVec 32 := 16#32
  let v34 : BitVec 32 := Scalar.muli v33 c16_i32
  let v36 : Index := Scalar.indexCast v34
  ![v35.toNat, v36.toNat]
@[reducible] def k0_t2_loop : Scf.Loop 32 :=
  let c0_i32_3 : BitVec 32 := 0#32
  let c8_i32 : BitVec 32 := 8#32
  let v5 : BitVec 32 := Scalar.addi c0_i32_3 c8_i32
  let c1_i32_4 : BitVec 32 := 1#32
  ⟨c0_i32_3, v5, c1_i32_4⟩

def k0_chk1 (v9 : IVec S16 32) : Prop :=
  (∀ a x, ((![v9] : Fin 1 → IVec S16 32) a x).toNat < S256.size a)
theorem k0_idx1_inb : ∀ (v9 : IVec S16 32) (k0_hw1 : k0_chk1 v9), ∀ a x, ((![v9] : Fin 1 → IVec S16 32) a x).toNat < S256.size a := fun v9 k0_hw1 => k0_hw1
def k0_off2 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v7 : BitVec 32 := Scalar.muli v1 c8_i32_6
  let c0_i32_3 : BitVec 32 := 0#32
  let c1_i32_4 : BitVec 32 := 1#32
  let arg14 : BitVec 32 := Scf.iv c0_i32_3 c1_i32_4 k0_t2
  let v8 : BitVec 32 := Scalar.addi v7 arg14
  let c32_i32_12 : BitVec 32 := 32#32
  let v24 : BitVec 32 := Scalar.muli v8 c32_i32_12
  let c0_i32_13_r1 : BitVec 32 := 0#32
  let c0_i32_14_r1 : BitVec 32 := 0#32
  ![v24.toNat, 0, 0]
def k0_off3 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v7 : BitVec 32 := Scalar.muli v1 c8_i32_6
  let c0_i32_3 : BitVec 32 := 0#32
  let c1_i32_4 : BitVec 32 := 1#32
  let arg14 : BitVec 32 := Scf.iv c0_i32_3 c1_i32_4 k0_t2
  let v8 : BitVec 32 := Scalar.addi v7 arg14
  let c0_i32_13_r2 : BitVec 32 := 0#32
  let c0_i32_14_r2 : BitVec 32 := 0#32
  ![v8.toNat, 0, 0]
def k0_off4 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v7 : BitVec 32 := Scalar.muli v1 c8_i32_6
  let c0_i32_3 : BitVec 32 := 0#32
  let c1_i32_4 : BitVec 32 := 1#32
  let arg14 : BitVec 32 := Scf.iv c0_i32_3 c1_i32_4 k0_t2
  let v8 : BitVec 32 := Scalar.addi v7 arg14
  let c0_i32_31_r3 : BitVec 32 := 0#32
  let c0_i32_32_r3 : BitVec 32 := 0#32
  ![v8.toNat, 0, 0]
@[reducible] def k0_t3_loop : Scf.Loop 32 :=
  let c0_i32_13 : BitVec 32 := 0#32
  let c256_i32_14 : BitVec 32 := 256#32
  let v23 : BitVec 32 := Scalar.addi c0_i32_13 c256_i32_14
  let c1_i32_15 : BitVec 32 := 1#32
  ⟨c0_i32_13, v23, c1_i32_15⟩
def k0_off5 (k0_t3 : Fin k0_t3_loop.trips) : Fin 1 → Nat :=
  let c0_i32_13 : BitVec 32 := 0#32
  let c1_i32_15 : BitVec 32 := 1#32
  let arg16 : BitVec 32 := Scf.iv c0_i32_13 c1_i32_15 k0_t3
  let c16_i32 : BitVec 32 := 16#32
  let v29 : BitVec 32 := Scalar.muli arg16 c16_i32
  let v30 : Index := Scalar.indexCast v29
  ![v30.toNat]
@[reducible] def k0_t4_loop : Scf.Loop 32 :=
  let c0_i32_18 : BitVec 32 := 0#32
  let c256_i32_19 : BitVec 32 := 256#32
  let v24 : BitVec 32 := Scalar.addi c0_i32_18 c256_i32_19
  let c1_i32_20 : BitVec 32 := 1#32
  ⟨c0_i32_18, v24, c1_i32_20⟩
def k0_off6 (k0_t4 : Fin k0_t4_loop.trips) : Fin 2 → Nat :=
  let c0_i32_18 : BitVec 32 := 0#32
  let c1_i32_20 : BitVec 32 := 1#32
  let arg16 : BitVec 32 := Scf.iv c0_i32_18 c1_i32_20 k0_t4
  let c0_i32_32 : BitVec 32 := 0#32
  let v29 : BitVec 1 := Scalar.cmpi .sgt arg16 c0_i32_32
  let v30 : BitVec 32 := Scalar.extui v29
  let c0_i32_33 : BitVec 32 := 0#32
  let v31 : BitVec 1 := Scalar.cmpi .slt arg16 c0_i32_33
  let v32 : BitVec 32 := Scalar.extui v31
  let v33 : BitVec 32 := Scalar.subi v30 v32
  let c8_i32_31 : BitVec 32 := 8#32
  let c0_i32_34 : BitVec 32 := 0#32
  let v34 : BitVec 1 := Scalar.cmpi .sgt c8_i32_31 c0_i32_34
  let v35 : BitVec 32 := Scalar.extui v34
  let c0_i32_35 : BitVec 32 := 0#32
  let v36 : BitVec 1 := Scalar.cmpi .slt c8_i32_31 c0_i32_35
  let v37 : BitVec 32 := Scalar.extui v36
  let v38 : BitVec 32 := Scalar.subi v35 v37
  let v39 : BitVec 1 := Scalar.cmpi .ne v33 v38
  let v40 : BitVec 32 := Scalar.remsi arg16 c8_i32_31
  let c0_i32_36 : BitVec 32 := 0#32
  let v41 : BitVec 1 := Scalar.cmpi .ne v40 c0_i32_36
  let v42 : BitVec 1 := Scalar.andi v39 v41
  let v28 : BitVec 32 := Scalar.divsi arg16 c8_i32_31
  let c1_i32_37 : BitVec 32 := 1#32
  let v43 : BitVec 32 := Scalar.subi v28 c1_i32_37
  let v44 : BitVec 32 := Scalar.select v42 v43 v28
  let v56 : Index := Scalar.indexCast v44
  let c8_i32_38 : BitVec 32 := 8#32
  let c0_i32_39 : BitVec 32 := 0#32
  let v45 : BitVec 1 := Scalar.cmpi .eq c8_i32_38 c0_i32_39
  let c1_i32_40 : BitVec 32 := 1#32
  let v46 : BitVec 32 := Scalar.select v45 c1_i32_40 c8_i32_38
  let v47 : BitVec 32 := Scalar.remsi arg16 v46
  let c0_i32_42 : BitVec 32 := 0#32
  let v49 : BitVec 1 := Scalar.cmpi .slt v47 c0_i32_42
  let c0_i32_43 : BitVec 32 := 0#32
  let v50 : BitVec 1 := Scalar.cmpi .slt v46 c0_i32_43
  let v51 : BitVec 1 := Scalar.xori v49 v50
  let c0_i32_41 : BitVec 32 := 0#32
  let v48 : BitVec 1 := Scalar.cmpi .ne v47 c0_i32_41
  let v52 : BitVec 1 := Scalar.andi v51 v48
  let v53 : BitVec 32 := Scalar.addi v47 v46
  let v54 : BitVec 32 := Scalar.select v52 v53 v47
  let c16_i32 : BitVec 32 := 16#32
  let v55 : BitVec 32 := Scalar.muli v54 c16_i32
  let v57 : Index := Scalar.indexCast v55
  ![v56.toNat, v57.toNat]
def k0_cond2 (v16 : BitVec 32) : BitVec 1 :=
  let c0_i32_9 : BitVec 32 := 0#32
  let v20 : BitVec 1 := Scalar.cmpi .ne v16 c0_i32_9
  let v21 : BitVec 32 := Scalar.extui v20
  let c0_i32_10 : BitVec 32 := 0#32
  let v22 : BitVec 1 := Scalar.cmpi .ne v21 c0_i32_10
  v22

def k0_chk2 (v16 : BitVec 32) (v70 : IVec S16 32) (v72 : IVec S16 32) : Prop :=
  (∀ (k0_h2 : k0_cond2 v16 = 1#1), ∀ a x, ((![v70, v72] : Fin 2 → IVec S16 32) a x).toNat < S32x128.size a)
theorem k0_idx2_inb : ∀ (v16 : BitVec 32) (v70 : IVec S16 32) (v72 : IVec S16 32) (k0_hw2 : k0_chk2 v16 v70 v72), ∀ (k0_h2 : k0_cond2 v16 = 1#1), ∀ a x, ((![v70, v72] : Fin 2 → IVec S16 32) a x).toNat < S32x128.size a := fun v16 v70 v72 k0_hw2 k0_h2 => k0_hw2 k0_h2

def k0_chk3 (v16 : BitVec 32) (v176 : IVec S16 32) : Prop :=
  (∀ (k0_h2 : k0_cond2 v16 = 1#1), ∀ a x, ((![v176] : Fin 1 → IVec S16 32) a x).toNat < S4096.size a)
theorem k0_idx3_inb : ∀ (v16 : BitVec 32) (v176 : IVec S16 32) (k0_hw3 : k0_chk3 v16 v176), ∀ (k0_h2 : k0_cond2 v16 = 1#1), ∀ a x, ((![v176] : Fin 1 → IVec S16 32) a x).toNat < S4096.size a := fun v16 v176 k0_hw3 k0_h2 => k0_hw3 k0_h2
@[reducible] def k0_t5_loop : Scf.Loop 32 :=
  let c0_i32_23 : BitVec 32 := 0#32
  let c256_i32_24 : BitVec 32 := 256#32
  let v25 : BitVec 32 := Scalar.addi c0_i32_23 c256_i32_24
  let c1_i32_25 : BitVec 32 := 1#32
  ⟨c0_i32_23, v25, c1_i32_25⟩
def k0_off7 (k0_t5 : Fin k0_t5_loop.trips) : Fin 1 → Nat :=
  let c0_i32_23 : BitVec 32 := 0#32
  let c1_i32_25 : BitVec 32 := 1#32
  let arg16 : BitVec 32 := Scf.iv c0_i32_23 c1_i32_25 k0_t5
  let c16_i32 : BitVec 32 := 16#32
  let v28 : BitVec 32 := Scalar.muli arg16 c16_i32
  let v29 : Index := Scalar.indexCast v28
  ![v29.toNat]
@[reducible] def k0_t6_loop : Scf.Loop 32 :=
  let c0_i32_28 : BitVec 32 := 0#32
  let c4_i32 : BitVec 32 := 4#32
  let v27 : BitVec 32 := Scalar.addi c0_i32_28 c4_i32
  let c1_i32_29 : BitVec 32 := 1#32
  ⟨c0_i32_28, v27, c1_i32_29⟩
def k0_off8 (i : grid0.Coords) (k0_t2 : Fin k0_t2_loop.trips) (k0_t6 : Fin k0_t6_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v7 : BitVec 32 := Scalar.muli v1 c8_i32_6
  let c0_i32_3 : BitVec 32 := 0#32
  let c1_i32_4 : BitVec 32 := 1#32
  let arg14 : BitVec 32 := Scf.iv c0_i32_3 c1_i32_4 k0_t2
  let v8 : BitVec 32 := Scalar.addi v7 arg14
  let c32_i32 : BitVec 32 := 32#32
  let v28 : BitVec 32 := Scalar.muli v8 c32_i32
  let c0_i32_28 : BitVec 32 := 0#32
  let c1_i32_29 : BitVec 32 := 1#32
  let arg16 : BitVec 32 := Scf.iv c0_i32_28 c1_i32_29 k0_t6
  let c8_i32_31 : BitVec 32 := 8#32
  let v29 : BitVec 32 := Scalar.muli arg16 c8_i32_31
  let v30 : BitVec 32 := Scalar.addi v28 v29
  let c0_i32_39_r4 : BitVec 32 := 0#32
  let c0_i32_40_r4 : BitVec 32 := 0#32
  ![v30.toNat, 0, 0]
@[reducible] def k0_t7_loop : Scf.Loop 32 :=
  let c0_i32_33 : BitVec 32 := 0#32
  let c256_i32_34 : BitVec 32 := 256#32
  let v31 : BitVec 32 := Scalar.addi c0_i32_33 c256_i32_34
  let c1_i32_35 : BitVec 32 := 1#32
  ⟨c0_i32_33, v31, c1_i32_35⟩
def k0_off9 (k0_t7 : Fin k0_t7_loop.trips) : Fin 1 → Nat :=
  let c0_i32_33 : BitVec 32 := 0#32
  let c1_i32_35 : BitVec 32 := 1#32
  let arg17 : BitVec 32 := Scf.iv c0_i32_33 c1_i32_35 k0_t7
  let c16_i32 : BitVec 32 := 16#32
  let v35 : BitVec 32 := Scalar.muli arg17 c16_i32
  let v36 : Index := Scalar.indexCast v35
  ![v36.toNat]

def k0_chk4 (v16 : BitVec 32) (v39 : IVec S16 32) (v41 : IVec S16 32) (v70 : IVec S16 32) : Prop :=
  (∀ (k0_h2 : k0_cond2 v16 = 1#1), ∀ a x, ((![v70, v39, v41] : Fin 3 → IVec S16 32) a x).toNat < S8x32x128.size a)
theorem k0_idx4_inb : ∀ (v16 : BitVec 32) (v39 : IVec S16 32) (v41 : IVec S16 32) (v70 : IVec S16 32) (k0_hw4 : k0_chk4 v16 v39 v41 v70), ∀ (k0_h2 : k0_cond2 v16 = 1#1), ∀ a x, ((![v70, v39, v41] : Fin 3 → IVec S16 32) a x).toNat < S8x32x128.size a := fun v16 v39 v41 v70 k0_hw4 k0_h2 => k0_hw4 k0_h2
def k0_off10 (k0_t7 : Fin k0_t7_loop.trips) : Fin 3 → Nat :=
  let c0_i32_54 : BitVec 32 := 0#32
  let v72 : Index := Scalar.indexCast c0_i32_54
  let c0_i32_33 : BitVec 32 := 0#32
  let c1_i32_35 : BitVec 32 := 1#32
  let arg17 : BitVec 32 := Scf.iv c0_i32_33 c1_i32_35 k0_t7
  let c0_i32_40 : BitVec 32 := 0#32
  let v43 : BitVec 1 := Scalar.cmpi .sgt arg17 c0_i32_40
  let v44 : BitVec 32 := Scalar.extui v43
  let c0_i32_41 : BitVec 32 := 0#32
  let v45 : BitVec 1 := Scalar.cmpi .slt arg17 c0_i32_41
  let v46 : BitVec 32 := Scalar.extui v45
  let v47 : BitVec 32 := Scalar.subi v44 v46
  let c8_i32_39 : BitVec 32 := 8#32
  let c0_i32_42 : BitVec 32 := 0#32
  let v48 : BitVec 1 := Scalar.cmpi .sgt c8_i32_39 c0_i32_42
  let v49 : BitVec 32 := Scalar.extui v48
  let c0_i32_43 : BitVec 32 := 0#32
  let v50 : BitVec 1 := Scalar.cmpi .slt c8_i32_39 c0_i32_43
  let v51 : BitVec 32 := Scalar.extui v50
  let v52 : BitVec 32 := Scalar.subi v49 v51
  let v53 : BitVec 1 := Scalar.cmpi .ne v47 v52
  let v54 : BitVec 32 := Scalar.remsi arg17 c8_i32_39
  let c0_i32_44 : BitVec 32 := 0#32
  let v55 : BitVec 1 := Scalar.cmpi .ne v54 c0_i32_44
  let v56 : BitVec 1 := Scalar.andi v53 v55
  let v42 : BitVec 32 := Scalar.divsi arg17 c8_i32_39
  let c1_i32_45 : BitVec 32 := 1#32
  let v57 : BitVec 32 := Scalar.subi v42 c1_i32_45
  let v58 : BitVec 32 := Scalar.select v56 v57 v42
  let v73 : Index := Scalar.indexCast v58
  let c8_i32_46 : BitVec 32 := 8#32
  let c0_i32_47 : BitVec 32 := 0#32
  let v59 : BitVec 1 := Scalar.cmpi .eq c8_i32_46 c0_i32_47
  let c1_i32_48 : BitVec 32 := 1#32
  let v60 : BitVec 32 := Scalar.select v59 c1_i32_48 c8_i32_46
  let v61 : BitVec 32 := Scalar.remsi arg17 v60
  let c0_i32_50 : BitVec 32 := 0#32
  let v63 : BitVec 1 := Scalar.cmpi .slt v61 c0_i32_50
  let c0_i32_51 : BitVec 32 := 0#32
  let v64 : BitVec 1 := Scalar.cmpi .slt v60 c0_i32_51
  let v65 : BitVec 1 := Scalar.xori v63 v64
  let c0_i32_49 : BitVec 32 := 0#32
  let v62 : BitVec 1 := Scalar.cmpi .ne v61 c0_i32_49
  let v66 : BitVec 1 := Scalar.andi v65 v62
  let v67 : BitVec 32 := Scalar.addi v61 v60
  let v68 : BitVec 32 := Scalar.select v66 v67 v61
  let c16_i32_52 : BitVec 32 := 16#32
  let v69 : BitVec 32 := Scalar.muli v68 c16_i32_52
  let v74 : Index := Scalar.indexCast v69
  ![0, v73.toNat, v74.toNat]

def k0_chk5 (v16 : BitVec 32) (v39 : IVec S16 32) (v41 : IVec S16 32) (v76 : IVec S16 32) : Prop :=
  (∀ (k0_h2 : k0_cond2 v16 = 1#1), ∀ a x, ((![v76, v39, v41] : Fin 3 → IVec S16 32) a x).toNat < S8x32x128.size a)
theorem k0_idx5_inb : ∀ (v16 : BitVec 32) (v39 : IVec S16 32) (v41 : IVec S16 32) (v76 : IVec S16 32) (k0_hw5 : k0_chk5 v16 v39 v41 v76), ∀ (k0_h2 : k0_cond2 v16 = 1#1), ∀ a x, ((![v76, v39, v41] : Fin 3 → IVec S16 32) a x).toNat < S8x32x128.size a := fun v16 v39 v41 v76 k0_hw5 k0_h2 => k0_hw5 k0_h2
def k0_off11 (k0_t7 : Fin k0_t7_loop.trips) : Fin 3 → Nat :=
  let c1_i32_56 : BitVec 32 := 1#32
  let v78 : Index := Scalar.indexCast c1_i32_56
  let c0_i32_33 : BitVec 32 := 0#32
  let c1_i32_35 : BitVec 32 := 1#32
  let arg17 : BitVec 32 := Scf.iv c0_i32_33 c1_i32_35 k0_t7
  let c0_i32_40 : BitVec 32 := 0#32
  let v43 : BitVec 1 := Scalar.cmpi .sgt arg17 c0_i32_40
  let v44 : BitVec 32 := Scalar.extui v43
  let c0_i32_41 : BitVec 32 := 0#32
  let v45 : BitVec 1 := Scalar.cmpi .slt arg17 c0_i32_41
  let v46 : BitVec 32 := Scalar.extui v45
  let v47 : BitVec 32 := Scalar.subi v44 v46
  let c8_i32_39 : BitVec 32 := 8#32
  let c0_i32_42 : BitVec 32 := 0#32
  let v48 : BitVec 1 := Scalar.cmpi .sgt c8_i32_39 c0_i32_42
  let v49 : BitVec 32 := Scalar.extui v48
  let c0_i32_43 : BitVec 32 := 0#32
  let v50 : BitVec 1 := Scalar.cmpi .slt c8_i32_39 c0_i32_43
  let v51 : BitVec 32 := Scalar.extui v50
  let v52 : BitVec 32 := Scalar.subi v49 v51
  let v53 : BitVec 1 := Scalar.cmpi .ne v47 v52
  let v54 : BitVec 32 := Scalar.remsi arg17 c8_i32_39
  let c0_i32_44 : BitVec 32 := 0#32
  let v55 : BitVec 1 := Scalar.cmpi .ne v54 c0_i32_44
  let v56 : BitVec 1 := Scalar.andi v53 v55
  let v42 : BitVec 32 := Scalar.divsi arg17 c8_i32_39
  let c1_i32_45 : BitVec 32 := 1#32
  let v57 : BitVec 32 := Scalar.subi v42 c1_i32_45
  let v58 : BitVec 32 := Scalar.select v56 v57 v42
  let v79 : Index := Scalar.indexCast v58
  let c8_i32_46 : BitVec 32 := 8#32
  let c0_i32_47 : BitVec 32 := 0#32
  let v59 : BitVec 1 := Scalar.cmpi .eq c8_i32_46 c0_i32_47
  let c1_i32_48 : BitVec 32 := 1#32
  let v60 : BitVec 32 := Scalar.select v59 c1_i32_48 c8_i32_46
  let v61 : BitVec 32 := Scalar.remsi arg17 v60
  let c0_i32_50 : BitVec 32 := 0#32
  let v63 : BitVec 1 := Scalar.cmpi .slt v61 c0_i32_50
  let c0_i32_51 : BitVec 32 := 0#32
  let v64 : BitVec 1 := Scalar.cmpi .slt v60 c0_i32_51
  let v65 : BitVec 1 := Scalar.xori v63 v64
  let c0_i32_49 : BitVec 32 := 0#32
  let v62 : BitVec 1 := Scalar.cmpi .ne v61 c0_i32_49
  let v66 : BitVec 1 := Scalar.andi v65 v62
  let v67 : BitVec 32 := Scalar.addi v61 v60
  let v68 : BitVec 32 := Scalar.select v66 v67 v61
  let c16_i32_52 : BitVec 32 := 16#32
  let v69 : BitVec 32 := Scalar.muli v68 c16_i32_52
  let v80 : Index := Scalar.indexCast v69
  ![1, v79.toNat, v80.toNat]

def k0_chk6 (v16 : BitVec 32) (v39 : IVec S16 32) (v41 : IVec S16 32) (v82 : IVec S16 32) : Prop :=
  (∀ (k0_h2 : k0_cond2 v16 = 1#1), ∀ a x, ((![v82, v39, v41] : Fin 3 → IVec S16 32) a x).toNat < S8x32x128.size a)
theorem k0_idx6_inb : ∀ (v16 : BitVec 32) (v39 : IVec S16 32) (v41 : IVec S16 32) (v82 : IVec S16 32) (k0_hw6 : k0_chk6 v16 v39 v41 v82), ∀ (k0_h2 : k0_cond2 v16 = 1#1), ∀ a x, ((![v82, v39, v41] : Fin 3 → IVec S16 32) a x).toNat < S8x32x128.size a := fun v16 v39 v41 v82 k0_hw6 k0_h2 => k0_hw6 k0_h2
def k0_off12 (k0_t7 : Fin k0_t7_loop.trips) : Fin 3 → Nat :=
  let c2_i32_58 : BitVec 32 := 2#32
  let v84 : Index := Scalar.indexCast c2_i32_58
  let c0_i32_33 : BitVec 32 := 0#32
  let c1_i32_35 : BitVec 32 := 1#32
  let arg17 : BitVec 32 := Scf.iv c0_i32_33 c1_i32_35 k0_t7
  let c0_i32_40 : BitVec 32 := 0#32
  let v43 : BitVec 1 := Scalar.cmpi .sgt arg17 c0_i32_40
  let v44 : BitVec 32 := Scalar.extui v43
  let c0_i32_41 : BitVec 32 := 0#32
  let v45 : BitVec 1 := Scalar.cmpi .slt arg17 c0_i32_41
  let v46 : BitVec 32 := Scalar.extui v45
  let v47 : BitVec 32 := Scalar.subi v44 v46
  let c8_i32_39 : BitVec 32 := 8#32
  let c0_i32_42 : BitVec 32 := 0#32
  let v48 : BitVec 1 := Scalar.cmpi .sgt c8_i32_39 c0_i32_42
  let v49 : BitVec 32 := Scalar.extui v48
  let c0_i32_43 : BitVec 32 := 0#32
  let v50 : BitVec 1 := Scalar.cmpi .slt c8_i32_39 c0_i32_43
  let v51 : BitVec 32 := Scalar.extui v50
  let v52 : BitVec 32 := Scalar.subi v49 v51
  let v53 : BitVec 1 := Scalar.cmpi .ne v47 v52
  let v54 : BitVec 32 := Scalar.remsi arg17 c8_i32_39
  let c0_i32_44 : BitVec 32 := 0#32
  let v55 : BitVec 1 := Scalar.cmpi .ne v54 c0_i32_44
  let v56 : BitVec 1 := Scalar.andi v53 v55
  let v42 : BitVec 32 := Scalar.divsi arg17 c8_i32_39
  let c1_i32_45 : BitVec 32 := 1#32
  let v57 : BitVec 32 := Scalar.subi v42 c1_i32_45
  let v58 : BitVec 32 := Scalar.select v56 v57 v42
  let v85 : Index := Scalar.indexCast v58
  let c8_i32_46 : BitVec 32 := 8#32
  let c0_i32_47 : BitVec 32 := 0#32
  let v59 : BitVec 1 := Scalar.cmpi .eq c8_i32_46 c0_i32_47
  let c1_i32_48 : BitVec 32 := 1#32
  let v60 : BitVec 32 := Scalar.select v59 c1_i32_48 c8_i32_46
  let v61 : BitVec 32 := Scalar.remsi arg17 v60
  let c0_i32_50 : BitVec 32 := 0#32
  let v63 : BitVec 1 := Scalar.cmpi .slt v61 c0_i32_50
  let c0_i32_51 : BitVec 32 := 0#32
  let v64 : BitVec 1 := Scalar.cmpi .slt v60 c0_i32_51
  let v65 : BitVec 1 := Scalar.xori v63 v64
  let c0_i32_49 : BitVec 32 := 0#32
  let v62 : BitVec 1 := Scalar.cmpi .ne v61 c0_i32_49
  let v66 : BitVec 1 := Scalar.andi v65 v62
  let v67 : BitVec 32 := Scalar.addi v61 v60
  let v68 : BitVec 32 := Scalar.select v66 v67 v61
  let c16_i32_52 : BitVec 32 := 16#32
  let v69 : BitVec 32 := Scalar.muli v68 c16_i32_52
  let v86 : Index := Scalar.indexCast v69
  ![2, v85.toNat, v86.toNat]

def k0_chk7 (v16 : BitVec 32) (v39 : IVec S16 32) (v41 : IVec S16 32) (v88 : IVec S16 32) : Prop :=
  (∀ (k0_h2 : k0_cond2 v16 = 1#1), ∀ a x, ((![v88, v39, v41] : Fin 3 → IVec S16 32) a x).toNat < S8x32x128.size a)
theorem k0_idx7_inb : ∀ (v16 : BitVec 32) (v39 : IVec S16 32) (v41 : IVec S16 32) (v88 : IVec S16 32) (k0_hw7 : k0_chk7 v16 v39 v41 v88), ∀ (k0_h2 : k0_cond2 v16 = 1#1), ∀ a x, ((![v88, v39, v41] : Fin 3 → IVec S16 32) a x).toNat < S8x32x128.size a := fun v16 v39 v41 v88 k0_hw7 k0_h2 => k0_hw7 k0_h2
def k0_off13 (k0_t7 : Fin k0_t7_loop.trips) : Fin 3 → Nat :=
  let c3_i32_59 : BitVec 32 := 3#32
  let v90 : Index := Scalar.indexCast c3_i32_59
  let c0_i32_33 : BitVec 32 := 0#32
  let c1_i32_35 : BitVec 32 := 1#32
  let arg17 : BitVec 32 := Scf.iv c0_i32_33 c1_i32_35 k0_t7
  let c0_i32_40 : BitVec 32 := 0#32
  let v43 : BitVec 1 := Scalar.cmpi .sgt arg17 c0_i32_40
  let v44 : BitVec 32 := Scalar.extui v43
  let c0_i32_41 : BitVec 32 := 0#32
  let v45 : BitVec 1 := Scalar.cmpi .slt arg17 c0_i32_41
  let v46 : BitVec 32 := Scalar.extui v45
  let v47 : BitVec 32 := Scalar.subi v44 v46
  let c8_i32_39 : BitVec 32 := 8#32
  let c0_i32_42 : BitVec 32 := 0#32
  let v48 : BitVec 1 := Scalar.cmpi .sgt c8_i32_39 c0_i32_42
  let v49 : BitVec 32 := Scalar.extui v48
  let c0_i32_43 : BitVec 32 := 0#32
  let v50 : BitVec 1 := Scalar.cmpi .slt c8_i32_39 c0_i32_43
  let v51 : BitVec 32 := Scalar.extui v50
  let v52 : BitVec 32 := Scalar.subi v49 v51
  let v53 : BitVec 1 := Scalar.cmpi .ne v47 v52
  let v54 : BitVec 32 := Scalar.remsi arg17 c8_i32_39
  let c0_i32_44 : BitVec 32 := 0#32
  let v55 : BitVec 1 := Scalar.cmpi .ne v54 c0_i32_44
  let v56 : BitVec 1 := Scalar.andi v53 v55
  let v42 : BitVec 32 := Scalar.divsi arg17 c8_i32_39
  let c1_i32_45 : BitVec 32 := 1#32
  let v57 : BitVec 32 := Scalar.subi v42 c1_i32_45
  let v58 : BitVec 32 := Scalar.select v56 v57 v42
  let v91 : Index := Scalar.indexCast v58
  let c8_i32_46 : BitVec 32 := 8#32
  let c0_i32_47 : BitVec 32 := 0#32
  let v59 : BitVec 1 := Scalar.cmpi .eq c8_i32_46 c0_i32_47
  let c1_i32_48 : BitVec 32 := 1#32
  let v60 : BitVec 32 := Scalar.select v59 c1_i32_48 c8_i32_46
  let v61 : BitVec 32 := Scalar.remsi arg17 v60
  let c0_i32_50 : BitVec 32 := 0#32
  let v63 : BitVec 1 := Scalar.cmpi .slt v61 c0_i32_50
  let c0_i32_51 : BitVec 32 := 0#32
  let v64 : BitVec 1 := Scalar.cmpi .slt v60 c0_i32_51
  let v65 : BitVec 1 := Scalar.xori v63 v64
  let c0_i32_49 : BitVec 32 := 0#32
  let v62 : BitVec 1 := Scalar.cmpi .ne v61 c0_i32_49
  let v66 : BitVec 1 := Scalar.andi v65 v62
  let v67 : BitVec 32 := Scalar.addi v61 v60
  let v68 : BitVec 32 := Scalar.select v66 v67 v61
  let c16_i32_52 : BitVec 32 := 16#32
  let v69 : BitVec 32 := Scalar.muli v68 c16_i32_52
  let v92 : Index := Scalar.indexCast v69
  ![3, v91.toNat, v92.toNat]

def k0_chk8 (v16 : BitVec 32) (v39 : IVec S16 32) (v41 : IVec S16 32) (v94 : IVec S16 32) : Prop :=
  (∀ (k0_h2 : k0_cond2 v16 = 1#1), ∀ a x, ((![v94, v39, v41] : Fin 3 → IVec S16 32) a x).toNat < S8x32x128.size a)
theorem k0_idx8_inb : ∀ (v16 : BitVec 32) (v39 : IVec S16 32) (v41 : IVec S16 32) (v94 : IVec S16 32) (k0_hw8 : k0_chk8 v16 v39 v41 v94), ∀ (k0_h2 : k0_cond2 v16 = 1#1), ∀ a x, ((![v94, v39, v41] : Fin 3 → IVec S16 32) a x).toNat < S8x32x128.size a := fun v16 v39 v41 v94 k0_hw8 k0_h2 => k0_hw8 k0_h2
def k0_off14 (k0_t7 : Fin k0_t7_loop.trips) : Fin 3 → Nat :=
  let c4_i32_61 : BitVec 32 := 4#32
  let v96 : Index := Scalar.indexCast c4_i32_61
  let c0_i32_33 : BitVec 32 := 0#32
  let c1_i32_35 : BitVec 32 := 1#32
  let arg17 : BitVec 32 := Scf.iv c0_i32_33 c1_i32_35 k0_t7
  let c0_i32_40 : BitVec 32 := 0#32
  let v43 : BitVec 1 := Scalar.cmpi .sgt arg17 c0_i32_40
  let v44 : BitVec 32 := Scalar.extui v43
  let c0_i32_41 : BitVec 32 := 0#32
  let v45 : BitVec 1 := Scalar.cmpi .slt arg17 c0_i32_41
  let v46 : BitVec 32 := Scalar.extui v45
  let v47 : BitVec 32 := Scalar.subi v44 v46
  let c8_i32_39 : BitVec 32 := 8#32
  let c0_i32_42 : BitVec 32 := 0#32
  let v48 : BitVec 1 := Scalar.cmpi .sgt c8_i32_39 c0_i32_42
  let v49 : BitVec 32 := Scalar.extui v48
  let c0_i32_43 : BitVec 32 := 0#32
  let v50 : BitVec 1 := Scalar.cmpi .slt c8_i32_39 c0_i32_43
  let v51 : BitVec 32 := Scalar.extui v50
  let v52 : BitVec 32 := Scalar.subi v49 v51
  let v53 : BitVec 1 := Scalar.cmpi .ne v47 v52
  let v54 : BitVec 32 := Scalar.remsi arg17 c8_i32_39
  let c0_i32_44 : BitVec 32 := 0#32
  let v55 : BitVec 1 := Scalar.cmpi .ne v54 c0_i32_44
  let v56 : BitVec 1 := Scalar.andi v53 v55
  let v42 : BitVec 32 := Scalar.divsi arg17 c8_i32_39
  let c1_i32_45 : BitVec 32 := 1#32
  let v57 : BitVec 32 := Scalar.subi v42 c1_i32_45
  let v58 : BitVec 32 := Scalar.select v56 v57 v42
  let v97 : Index := Scalar.indexCast v58
  let c8_i32_46 : BitVec 32 := 8#32
  let c0_i32_47 : BitVec 32 := 0#32
  let v59 : BitVec 1 := Scalar.cmpi .eq c8_i32_46 c0_i32_47
  let c1_i32_48 : BitVec 32 := 1#32
  let v60 : BitVec 32 := Scalar.select v59 c1_i32_48 c8_i32_46
  let v61 : BitVec 32 := Scalar.remsi arg17 v60
  let c0_i32_50 : BitVec 32 := 0#32
  let v63 : BitVec 1 := Scalar.cmpi .slt v61 c0_i32_50
  let c0_i32_51 : BitVec 32 := 0#32
  let v64 : BitVec 1 := Scalar.cmpi .slt v60 c0_i32_51
  let v65 : BitVec 1 := Scalar.xori v63 v64
  let c0_i32_49 : BitVec 32 := 0#32
  let v62 : BitVec 1 := Scalar.cmpi .ne v61 c0_i32_49
  let v66 : BitVec 1 := Scalar.andi v65 v62
  let v67 : BitVec 32 := Scalar.addi v61 v60
  let v68 : BitVec 32 := Scalar.select v66 v67 v61
  let c16_i32_52 : BitVec 32 := 16#32
  let v69 : BitVec 32 := Scalar.muli v68 c16_i32_52
  let v98 : Index := Scalar.indexCast v69
  ![4, v97.toNat, v98.toNat]

def k0_chk9 (v16 : BitVec 32) (v39 : IVec S16 32) (v41 : IVec S16 32) (v100 : IVec S16 32) : Prop :=
  (∀ (k0_h2 : k0_cond2 v16 = 1#1), ∀ a x, ((![v100, v39, v41] : Fin 3 → IVec S16 32) a x).toNat < S8x32x128.size a)
theorem k0_idx9_inb : ∀ (v16 : BitVec 32) (v39 : IVec S16 32) (v41 : IVec S16 32) (v100 : IVec S16 32) (k0_hw9 : k0_chk9 v16 v39 v41 v100), ∀ (k0_h2 : k0_cond2 v16 = 1#1), ∀ a x, ((![v100, v39, v41] : Fin 3 → IVec S16 32) a x).toNat < S8x32x128.size a := fun v16 v39 v41 v100 k0_hw9 k0_h2 => k0_hw9 k0_h2
def k0_off15 (k0_t7 : Fin k0_t7_loop.trips) : Fin 3 → Nat :=
  let c5_i32_62 : BitVec 32 := 5#32
  let v102 : Index := Scalar.indexCast c5_i32_62
  let c0_i32_33 : BitVec 32 := 0#32
  let c1_i32_35 : BitVec 32 := 1#32
  let arg17 : BitVec 32 := Scf.iv c0_i32_33 c1_i32_35 k0_t7
  let c0_i32_40 : BitVec 32 := 0#32
  let v43 : BitVec 1 := Scalar.cmpi .sgt arg17 c0_i32_40
  let v44 : BitVec 32 := Scalar.extui v43
  let c0_i32_41 : BitVec 32 := 0#32
  let v45 : BitVec 1 := Scalar.cmpi .slt arg17 c0_i32_41
  let v46 : BitVec 32 := Scalar.extui v45
  let v47 : BitVec 32 := Scalar.subi v44 v46
  let c8_i32_39 : BitVec 32 := 8#32
  let c0_i32_42 : BitVec 32 := 0#32
  let v48 : BitVec 1 := Scalar.cmpi .sgt c8_i32_39 c0_i32_42
  let v49 : BitVec 32 := Scalar.extui v48
  let c0_i32_43 : BitVec 32 := 0#32
  let v50 : BitVec 1 := Scalar.cmpi .slt c8_i32_39 c0_i32_43
  let v51 : BitVec 32 := Scalar.extui v50
  let v52 : BitVec 32 := Scalar.subi v49 v51
  let v53 : BitVec 1 := Scalar.cmpi .ne v47 v52
  let v54 : BitVec 32 := Scalar.remsi arg17 c8_i32_39
  let c0_i32_44 : BitVec 32 := 0#32
  let v55 : BitVec 1 := Scalar.cmpi .ne v54 c0_i32_44
  let v56 : BitVec 1 := Scalar.andi v53 v55
  let v42 : BitVec 32 := Scalar.divsi arg17 c8_i32_39
  let c1_i32_45 : BitVec 32 := 1#32
  let v57 : BitVec 32 := Scalar.subi v42 c1_i32_45
  let v58 : BitVec 32 := Scalar.select v56 v57 v42
  let v103 : Index := Scalar.indexCast v58
  let c8_i32_46 : BitVec 32 := 8#32
  let c0_i32_47 : BitVec 32 := 0#32
  let v59 : BitVec 1 := Scalar.cmpi .eq c8_i32_46 c0_i32_47
  let c1_i32_48 : BitVec 32 := 1#32
  let v60 : BitVec 32 := Scalar.select v59 c1_i32_48 c8_i32_46
  let v61 : BitVec 32 := Scalar.remsi arg17 v60
  let c0_i32_50 : BitVec 32 := 0#32
  let v63 : BitVec 1 := Scalar.cmpi .slt v61 c0_i32_50
  let c0_i32_51 : BitVec 32 := 0#32
  let v64 : BitVec 1 := Scalar.cmpi .slt v60 c0_i32_51
  let v65 : BitVec 1 := Scalar.xori v63 v64
  let c0_i32_49 : BitVec 32 := 0#32
  let v62 : BitVec 1 := Scalar.cmpi .ne v61 c0_i32_49
  let v66 : BitVec 1 := Scalar.andi v65 v62
  let v67 : BitVec 32 := Scalar.addi v61 v60
  let v68 : BitVec 32 := Scalar.select v66 v67 v61
  let c16_i32_52 : BitVec 32 := 16#32
  let v69 : BitVec 32 := Scalar.muli v68 c16_i32_52
  let v104 : Index := Scalar.indexCast v69
  ![5, v103.toNat, v104.toNat]

def k0_chk10 (v16 : BitVec 32) (v39 : IVec S16 32) (v41 : IVec S16 32) (v106 : IVec S16 32) : Prop :=
  (∀ (k0_h2 : k0_cond2 v16 = 1#1), ∀ a x, ((![v106, v39, v41] : Fin 3 → IVec S16 32) a x).toNat < S8x32x128.size a)
theorem k0_idx10_inb : ∀ (v16 : BitVec 32) (v39 : IVec S16 32) (v41 : IVec S16 32) (v106 : IVec S16 32) (k0_hw10 : k0_chk10 v16 v39 v41 v106), ∀ (k0_h2 : k0_cond2 v16 = 1#1), ∀ a x, ((![v106, v39, v41] : Fin 3 → IVec S16 32) a x).toNat < S8x32x128.size a := fun v16 v39 v41 v106 k0_hw10 k0_h2 => k0_hw10 k0_h2
def k0_off16 (k0_t7 : Fin k0_t7_loop.trips) : Fin 3 → Nat :=
  let c6_i32_63 : BitVec 32 := 6#32
  let v108 : Index := Scalar.indexCast c6_i32_63
  let c0_i32_33 : BitVec 32 := 0#32
  let c1_i32_35 : BitVec 32 := 1#32
  let arg17 : BitVec 32 := Scf.iv c0_i32_33 c1_i32_35 k0_t7
  let c0_i32_40 : BitVec 32 := 0#32
  let v43 : BitVec 1 := Scalar.cmpi .sgt arg17 c0_i32_40
  let v44 : BitVec 32 := Scalar.extui v43
  let c0_i32_41 : BitVec 32 := 0#32
  let v45 : BitVec 1 := Scalar.cmpi .slt arg17 c0_i32_41
  let v46 : BitVec 32 := Scalar.extui v45
  let v47 : BitVec 32 := Scalar.subi v44 v46
  let c8_i32_39 : BitVec 32 := 8#32
  let c0_i32_42 : BitVec 32 := 0#32
  let v48 : BitVec 1 := Scalar.cmpi .sgt c8_i32_39 c0_i32_42
  let v49 : BitVec 32 := Scalar.extui v48
  let c0_i32_43 : BitVec 32 := 0#32
  let v50 : BitVec 1 := Scalar.cmpi .slt c8_i32_39 c0_i32_43
  let v51 : BitVec 32 := Scalar.extui v50
  let v52 : BitVec 32 := Scalar.subi v49 v51
  let v53 : BitVec 1 := Scalar.cmpi .ne v47 v52
  let v54 : BitVec 32 := Scalar.remsi arg17 c8_i32_39
  let c0_i32_44 : BitVec 32 := 0#32
  let v55 : BitVec 1 := Scalar.cmpi .ne v54 c0_i32_44
  let v56 : BitVec 1 := Scalar.andi v53 v55
  let v42 : BitVec 32 := Scalar.divsi arg17 c8_i32_39
  let c1_i32_45 : BitVec 32 := 1#32
  let v57 : BitVec 32 := Scalar.subi v42 c1_i32_45
  let v58 : BitVec 32 := Scalar.select v56 v57 v42
  let v109 : Index := Scalar.indexCast v58
  let c8_i32_46 : BitVec 32 := 8#32
  let c0_i32_47 : BitVec 32 := 0#32
  let v59 : BitVec 1 := Scalar.cmpi .eq c8_i32_46 c0_i32_47
  let c1_i32_48 : BitVec 32 := 1#32
  let v60 : BitVec 32 := Scalar.select v59 c1_i32_48 c8_i32_46
  let v61 : BitVec 32 := Scalar.remsi arg17 v60
  let c0_i32_50 : BitVec 32 := 0#32
  let v63 : BitVec 1 := Scalar.cmpi .slt v61 c0_i32_50
  let c0_i32_51 : BitVec 32 := 0#32
  let v64 : BitVec 1 := Scalar.cmpi .slt v60 c0_i32_51
  let v65 : BitVec 1 := Scalar.xori v63 v64
  let c0_i32_49 : BitVec 32 := 0#32
  let v62 : BitVec 1 := Scalar.cmpi .ne v61 c0_i32_49
  let v66 : BitVec 1 := Scalar.andi v65 v62
  let v67 : BitVec 32 := Scalar.addi v61 v60
  let v68 : BitVec 32 := Scalar.select v66 v67 v61
  let c16_i32_52 : BitVec 32 := 16#32
  let v69 : BitVec 32 := Scalar.muli v68 c16_i32_52
  let v110 : Index := Scalar.indexCast v69
  ![6, v109.toNat, v110.toNat]

def k0_chk11 (v16 : BitVec 32) (v39 : IVec S16 32) (v41 : IVec S16 32) (v112 : IVec S16 32) : Prop :=
  (∀ (k0_h2 : k0_cond2 v16 = 1#1), ∀ a x, ((![v112, v39, v41] : Fin 3 → IVec S16 32) a x).toNat < S8x32x128.size a)
theorem k0_idx11_inb : ∀ (v16 : BitVec 32) (v39 : IVec S16 32) (v41 : IVec S16 32) (v112 : IVec S16 32) (k0_hw11 : k0_chk11 v16 v39 v41 v112), ∀ (k0_h2 : k0_cond2 v16 = 1#1), ∀ a x, ((![v112, v39, v41] : Fin 3 → IVec S16 32) a x).toNat < S8x32x128.size a := fun v16 v39 v41 v112 k0_hw11 k0_h2 => k0_hw11 k0_h2
def k0_off17 (k0_t7 : Fin k0_t7_loop.trips) : Fin 3 → Nat :=
  let c7_i32_65 : BitVec 32 := 7#32
  let v114 : Index := Scalar.indexCast c7_i32_65
  let c0_i32_33 : BitVec 32 := 0#32
  let c1_i32_35 : BitVec 32 := 1#32
  let arg17 : BitVec 32 := Scf.iv c0_i32_33 c1_i32_35 k0_t7
  let c0_i32_40 : BitVec 32 := 0#32
  let v43 : BitVec 1 := Scalar.cmpi .sgt arg17 c0_i32_40
  let v44 : BitVec 32 := Scalar.extui v43
  let c0_i32_41 : BitVec 32 := 0#32
  let v45 : BitVec 1 := Scalar.cmpi .slt arg17 c0_i32_41
  let v46 : BitVec 32 := Scalar.extui v45
  let v47 : BitVec 32 := Scalar.subi v44 v46
  let c8_i32_39 : BitVec 32 := 8#32
  let c0_i32_42 : BitVec 32 := 0#32
  let v48 : BitVec 1 := Scalar.cmpi .sgt c8_i32_39 c0_i32_42
  let v49 : BitVec 32 := Scalar.extui v48
  let c0_i32_43 : BitVec 32 := 0#32
  let v50 : BitVec 1 := Scalar.cmpi .slt c8_i32_39 c0_i32_43
  let v51 : BitVec 32 := Scalar.extui v50
  let v52 : BitVec 32 := Scalar.subi v49 v51
  let v53 : BitVec 1 := Scalar.cmpi .ne v47 v52
  let v54 : BitVec 32 := Scalar.remsi arg17 c8_i32_39
  let c0_i32_44 : BitVec 32 := 0#32
  let v55 : BitVec 1 := Scalar.cmpi .ne v54 c0_i32_44
  let v56 : BitVec 1 := Scalar.andi v53 v55
  let v42 : BitVec 32 := Scalar.divsi arg17 c8_i32_39
  let c1_i32_45 : BitVec 32 := 1#32
  let v57 : BitVec 32 := Scalar.subi v42 c1_i32_45
  let v58 : BitVec 32 := Scalar.select v56 v57 v42
  let v115 : Index := Scalar.indexCast v58
  let c8_i32_46 : BitVec 32 := 8#32
  let c0_i32_47 : BitVec 32 := 0#32
  let v59 : BitVec 1 := Scalar.cmpi .eq c8_i32_46 c0_i32_47
  let c1_i32_48 : BitVec 32 := 1#32
  let v60 : BitVec 32 := Scalar.select v59 c1_i32_48 c8_i32_46
  let v61 : BitVec 32 := Scalar.remsi arg17 v60
  let c0_i32_50 : BitVec 32 := 0#32
  let v63 : BitVec 1 := Scalar.cmpi .slt v61 c0_i32_50
  let c0_i32_51 : BitVec 32 := 0#32
  let v64 : BitVec 1 := Scalar.cmpi .slt v60 c0_i32_51
  let v65 : BitVec 1 := Scalar.xori v63 v64
  let c0_i32_49 : BitVec 32 := 0#32
  let v62 : BitVec 1 := Scalar.cmpi .ne v61 c0_i32_49
  let v66 : BitVec 1 := Scalar.andi v65 v62
  let v67 : BitVec 32 := Scalar.addi v61 v60
  let v68 : BitVec 32 := Scalar.select v66 v67 v61
  let c16_i32_52 : BitVec 32 := 16#32
  let v69 : BitVec 32 := Scalar.muli v68 c16_i32_52
  let v116 : Index := Scalar.indexCast v69
  ![7, v115.toNat, v116.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x4096x32 : Shape := ⟨3, ![256, 4096, 32]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S4096 : Shape := ⟨1, ![4096]⟩
abbrev S256x1x4096 : Shape := ⟨3, ![256, 1, 4096]⟩
abbrev S1x4096x1 : Shape := ⟨3, ![1, 4096, 1]⟩
abbrev S256x4096x4096 : Shape := ⟨3, ![256, 4096, 4096]⟩
abbrev S256x4096x1 : Shape := ⟨3, ![256, 4096, 1]⟩
abbrev S1 : Shape := ⟨1, ![1]⟩
abbrev S1x1x1 : Shape := ⟨3, ![1, 1, 1]⟩
abbrev S256x1x1 : Shape := ⟨3, ![256, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S256x4096x32, .f32⟩
  | .hbm, ⟨1, _⟩ => ⟨S256x4096, .f32⟩
  | .hbm, ⟨2, _⟩ => ⟨S256x4096, .f32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .i1⟩
  | .hbm, ⟨11, _⟩ => ⟨S_, .f32⟩
  | .hbm, ⟨12, _⟩ => ⟨S_, .f32⟩
  | .hbm, ⟨13, _⟩ => ⟨S256x4096, .f32⟩
  | .hbm, ⟨14, _⟩ => ⟨S256x1, .f32⟩
  | .hbm, ⟨15, _⟩ => ⟨S256x4096, .f32⟩
  | .hbm, ⟨16, _⟩ => ⟨S256x4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S256x1x4096, .f32⟩
  | .hbm, ⟨25, _⟩ => ⟨S1x4096x1, .f32⟩
  | .hbm, ⟨26, _⟩ => ⟨S256x4096x4096, .f32⟩
  | .hbm, ⟨27, _⟩ => ⟨S256x4096x4096, .f32⟩
  | .hbm, ⟨28, _⟩ => ⟨S256x4096x4096, .i1⟩
  | .hbm, ⟨29, _⟩ => ⟨S256x4096x4096, .i32⟩
  | .hbm, ⟨30, _⟩ => ⟨S_, .i32⟩
  | .hbm, ⟨31, _⟩ => ⟨S256x4096, .i32⟩
  | .hbm, ⟨32, _⟩ => ⟨S256x4096x1, .i32⟩
  | .hbm, ⟨33, _⟩ => ⟨S_, .i32⟩
  | .hbm, ⟨34, _⟩ => ⟨S256x4096x1, .i32⟩
  | .hbm, ⟨35, _⟩ => ⟨S256x4096x1, .i1⟩
  | .hbm, ⟨36, _⟩ => ⟨S_, .i32⟩
  | .hbm, ⟨37, _⟩ => ⟨S256x4096x1, .i32⟩
  | .hbm, ⟨38, _⟩ => ⟨S256x4096x1, .i32⟩
  | .hbm, ⟨39, _⟩ => ⟨S256x4096x1, .i32⟩
  | .hbm, ⟨40, _⟩ => ⟨S1, .i32⟩
  | .hbm, ⟨41, _⟩ => ⟨S_, .i32⟩
  | .hbm, ⟨42, _⟩ => ⟨S256x4096x1, .i32⟩
  | .hbm, ⟨43, _⟩ => ⟨S256x4096x1, .i1⟩
  | .hbm, ⟨44, _⟩ => ⟨S1x1x1, .i32⟩
  | .hbm, ⟨45, _⟩ => ⟨S256x4096x1, .i32⟩
  | .hbm, ⟨46, _⟩ => ⟨S256x4096x1, .i1⟩
  | .hbm, ⟨47, _⟩ => ⟨S256x4096x1, .i1⟩
  | .hbm, ⟨48, _⟩ => ⟨S_, .i1⟩
  | .hbm, ⟨49, _⟩ => ⟨S256x4096, .i1⟩
  | .hbm, ⟨50, _⟩ => ⟨S256x4096x32, .f32⟩
  | .hbm, ⟨51, _⟩ => ⟨S256x4096x32, .i1⟩
  | .hbm, ⟨52, _⟩ => ⟨S_, .f32⟩
  | .hbm, ⟨53, _⟩ => ⟨S256x4096x32, .f32⟩
  | .hbm, ⟨54, _⟩ => ⟨S256x4096x32, .f32⟩
  | .hbm, ⟨55, _⟩ => ⟨S_, .f32⟩
  | .hbm, ⟨56, _⟩ => ⟨S256x4096, .f32⟩
  | .hbm, ⟨57, _⟩ => ⟨S256x1x1, .i1⟩
  | .hbm, ⟨58, _⟩ => ⟨S256x4096x32, .i1⟩
  | .hbm, ⟨59, _⟩ => ⟨S256x4096x32, .f32⟩
  | .hbm, ⟨60, _⟩ => ⟨S256x1, .i1⟩
  | .hbm, ⟨61, _⟩ => ⟨S256x4096, .i1⟩
  | .hbm, ⟨62, _⟩ => ⟨S256x4096, .f32⟩
  | _, _ => ⟨S256x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_call0_call0_cst : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_c_2 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_c_3 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_v25 : Ref sig .tc := ⟨.hbm, 57, rfl⟩
abbrev main_call2_v0 : Ref sig .tc := ⟨.hbm, 58, rfl⟩
abbrev main_v26 : Ref sig .tc := ⟨.hbm, 59, rfl⟩
abbrev main_v27 : Ref sig .tc := ⟨.hbm, 60, rfl⟩
abbrev main_call3_v0 : Ref sig .tc := ⟨.hbm, 61, rfl⟩
abbrev main_v28 : Ref sig .tc := ⟨.hbm, 62, rfl⟩

abbrev nD : Nat := 1
abbrev τ : Topo := Topo.v7x

variable {F : FTy → Type} [FloatOps F]
-- ==== Proof.Base.lean ====
/-
  The vocabulary of the resampling kernel's run: the launch set-up (one vector-subcore call on two SparseCores of
  sixteen subcores), the resource algebra, and the loop bodies at the call's own buffers. Everything here is over any
  float values `F`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.VecWindow
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters
abbrev EH : Emb UH (MT nD τ sig (HIx 1) (Elt F) ℕ UU ℕ) := embL

/-! ## A vector subcore and its buffers -/

abbrev cV (L : grid0.Coords) : Fin τ.nSC := (L 0).castLE hcore0
abbrev jV (L : grid0.Coords) : Fin τ.nSub := (L 1).castLE hsub0
/-- The vector subcore of device `d` that runs the task at grid point `L`. -/
abbrev thr (d : Dev nD) (L : grid0.Coords) : Thread nD τ := V d (cV L) (jV L)

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

variable [FloatOps F]

/-! ## The loop bodies at the call's buffers -/

/-- The lanes' numbers, as the kernel makes them. -/
abbrev lanes : IVec S16 32 := iota .scVector S16 32 [0] iota_S16_d0_w32_scVector
abbrev body1 (L : grid0.Coords) := k0_t1_body (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6
abbrev body2 (L : grid0.Coords) := k0_t2_body (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6
abbrev body3 (L : grid0.Coords) := k0_t3_body (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6
abbrev body4 (L : grid0.Coords) := k0_t4_body (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6
abbrev body5 (L : grid0.Coords) := k0_t5_body (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6
abbrev body6 (L : grid0.Coords) := k0_t6_body (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6
abbrev body7 (L : grid0.Coords) := k0_t7_body (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6
abbrev part6 (L : grid0.Coords) := k0_part6 (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6
abbrev whole (L : grid0.Coords) := cc0__sc_resample (F := F) L stW (Memref.isWhole_whole _) csW (Memref.isWhole_whole _) wtW (Memref.isWhole_whole _) mkW (Memref.isWhole_whole _) osW (Memref.isWhole_whole _) owW (Memref.isWhole_whole _) cB (Memref.isWhole_whole _) ixB (Memref.isWhole_whole _) rwB (Memref.isWhole_whole _) mkB (Memref.isWhole_whole _) rB (Memref.isWhole_whole _) oB (Memref.isWhole_whole _) cc0_scoped0 cc0_scoped1 cc0_scoped2 cc0_scoped3 cc0_scoped4 cc0_scoped5 cc0_scoped6

end Cert.Proof.Resample
-- ==== Proof.Words.lean ====
/-
  Facts of the kernel's integer operations over words below 2³¹: signed and unsigned order agree there, and the running
  maximum of a vector, flipped at the sign bit before and after, is the running maximum of the words' numbers.
-/
module

public import proofs.«01_k».proof.Proof.Base

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## Words below 2³¹ -/

theorem slt_small {x y : BitVec 32} (hx : x.toNat < 2 ^ 31) (hy : y.toNat < 2 ^ 31) : x.slt y = decide (x.toNat < y.toNat) := by
  rw [BitVec.slt_eq_decide, BitVec.toInt_eq_toNat_of_lt (by omega), BitVec.toInt_eq_toNat_of_lt (by omega)]
  simp

theorem maxsi_small {x y : BitVec 32} (hx : x.toNat < 2 ^ 31) (hy : y.toNat < 2 ^ 31) : (IntOp.maxsi x y).toNat = max x.toNat y.toNat := by
  unfold IntOp.maxsi
  rw [slt_small hy hx]
  by_cases h : y.toNat < x.toNat <;> simp [h] <;> omega

theorem minsi_small {x y : BitVec 32} (hx : x.toNat < 2 ^ 31) (hy : y.toNat < 2 ^ 31) : (IntOp.minsi x y).toNat = min x.toNat y.toNat := by
  unfold IntOp.minsi
  rw [slt_small hx hy]
  by_cases h : x.toNat < y.toNat <;> simp [h] <;> omega

/-- The larger of zero and any word, read signed, is a word below 2³¹. -/
theorem maxsi_zero_small (y : BitVec 32) : (IntOp.maxsi (0#32) y).toNat < 2 ^ 31 := by
  unfold IntOp.maxsi
  by_cases h : y.slt 0#32
  · simp [h]
  · simp only [h]
    have h0 : ¬ y.toInt < 0 := by
      rw [BitVec.slt_eq_decide] at h
      simpa using h
    have hc := BitVec.toInt_eq_toNat_cond y
    have hl := y.isLt
    simp only [Bool.false_eq_true, ↓reduceIte]
    split at hc <;> omega

theorem maxsi_zero_toNat (y : BitVec 32) : (IntOp.maxsi (0#32) y).toNat = y.toInt.toNat := by
  unfold IntOp.maxsi
  by_cases h : y.slt 0#32
  · rw [BitVec.slt_eq_decide] at h
    have h' : y.toInt < 0 := by simpa using h
    simp [BitVec.slt_eq_decide, h']
    omega
  · have h0 : ¬ y.toInt < 0 := by
      rw [BitVec.slt_eq_decide] at h
      simpa using h
    simp only [h]
    have hc := BitVec.toInt_eq_toNat_cond y
    have hl := y.isLt
    simp only [Bool.false_eq_true, ↓reduceIte]
    split at hc <;> omega

/-- The word with its sign bit flipped. -/
abbrev flip (x : BitVec 32) : BitVec 32 := IntOp.xori x 2147483648#32

theorem flip_flip (x : BitVec 32) : flip (flip x) = x := by
  simp only [IntOp.xori, BitVec.xor_assoc, BitVec.xor_self, BitVec.xor_zero]

theorem flip_toNat {x : BitVec 32} (hx : x.toNat < 2 ^ 31) : (flip x).toNat = x.toNat + 2 ^ 31 := by
  have h : flip x = x + 2147483648#32 := by
    apply BitVec.eq_of_toNat_eq
    show (x ^^^ 2147483648#32).toNat = _
    rw [BitVec.toNat_xor, BitVec.toNat_add]
    have e : (2147483648#32 : BitVec 32).toNat = 2 ^ 31 := by decide
    rw [e]
    have h1 : x.toNat &&& 2 ^ 31 = 0 := by
      apply Nat.eq_of_testBit_eq
      intro i
      rw [Nat.testBit_and, Nat.testBit_two_pow, Nat.zero_testBit]
      by_cases hi : 31 = i
      · subst hi; rw [Nat.testBit_lt_two_pow hx]; rfl
      · simp [hi]
    have h2 : x.toNat + 2 ^ 31 = x.toNat ||| 2 ^ 31 := by
      have := Nat.two_pow_add_eq_or_of_lt hx 1
      rw [Nat.mul_one] at this
      rw [Nat.or_comm, ← this, Nat.add_comm]
    have h3 : x.toNat ^^^ 2 ^ 31 = x.toNat ||| 2 ^ 31 := by
      apply Nat.eq_of_testBit_eq
      intro i
      have hi : ((x.toNat &&& 2 ^ 31).testBit i) = false := by rw [h1]; simp
      rw [Nat.testBit_and] at hi
      rw [Nat.testBit_xor, Nat.testBit_or]
      cases hA : x.toNat.testBit i <;> cases hB : (2 ^ 31).testBit i <;> simp_all
    rw [h3, ← h2, Nat.mod_eq_of_lt (by omega)]
  rw [h, BitVec.toNat_add]
  have e : (2147483648#32 : BitVec 32).toNat = 2 ^ 31 := by decide
  rw [e, Nat.mod_eq_of_lt (by omega)]

theorem maxui_flip {x y : BitVec 32} (hx : x.toNat < 2 ^ 31) (hy : y.toNat < 2 ^ 31) :
    ∃ z : BitVec 32, IntOp.maxui (flip x) (flip y) = flip z ∧ z.toNat = max x.toNat y.toNat := by
  unfold IntOp.maxui
  rw [BitVec.ult_eq_decide, flip_toNat hx, flip_toNat hy]
  by_cases h : y.toNat < x.toNat
  · exact ⟨x, by simp [h], by omega⟩
  · exact ⟨y, by simp [h], by omega⟩

/-! ## The running maximum of a vector -/

theorem foldl_max (f : Fin 16 → BitVec 32) (hf : ∀ k, (f k).toNat < 2 ^ 31) (l : List (Fin 16)) :
    ∀ a : BitVec 32, a.toNat < 2 ^ 31 → ∃ z : BitVec 32, l.foldl (fun r k => IntOp.maxui r (flip (f k))) (flip a) = flip z
      ∧ z.toNat < 2 ^ 31 ∧ ∀ M, z.toNat ≤ M ↔ a.toNat ≤ M ∧ ∀ k ∈ l, (f k).toNat ≤ M := by
  induction l with
  | nil => exact fun a ha => ⟨a, rfl, ha, fun M => by simp⟩
  | cons k l ih =>
    intro a ha
    obtain ⟨z, hz, hzn⟩ := maxui_flip ha (hf k)
    obtain ⟨w, hw, hws, hwn⟩ := ih z (by have := hf k; omega)
    refine ⟨w, ?_, hws, fun M => ?_⟩
    · rw [List.foldl_cons, hz, hw]
    · rw [hwn, hzn]
      simp only [List.mem_cons, forall_eq_or_imp, max_le_iff, and_assoc]

/-- The lane numbered `r` (modulo sixteen). -/
def lane (r : ℕ) : S16.Idx := fun a => ⟨r % S16.size a, Nat.mod_lt _ (by fin_cases a; decide)⟩

/-- What the flipped running maximum of small words is at a lane: the least upper bound of the words up to it. -/
theorem scan_flip (v : IVec S16 32) (hv : ∀ i, (v i).toNat < 2 ^ 31) (r : ℕ) (hr : r < 16) :
    ((xori (scan .max (xori v (broadcast S16 2147483648#32))) (broadcast S16 2147483648#32)) (lane r)).toNat < 2 ^ 31
    ∧ ∀ M, ((xori (scan .max (xori v (broadcast S16 2147483648#32))) (broadcast S16 2147483648#32)) (lane r)).toNat ≤ M
      ↔ ∀ r' ≤ r, (v (lane r')).toNat ≤ M := by
  let f : Fin 16 → BitVec 32 := fun k => v (Shape.ofLane (d := ![16]) k)
  obtain ⟨z, hz, hzs, hzn⟩ := foldl_max f (fun k => hv _)
    ((List.finRange 16).filter fun k => decide (0 < k.val ∧ k.val ≤ r % 16)) (f ⟨0, by decide⟩) (hv _)
  have e : (xori (scan .max (xori v (broadcast S16 2147483648#32))) (broadcast S16 2147483648#32)) (lane r) = z := by
    have : (scan .max (xori v (broadcast S16 2147483648#32))) (lane r) = flip z := hz
    show IntOp.xori ((scan .max (xori v (broadcast S16 2147483648#32))) (lane r)) 2147483648#32 = z
    rw [this]
    exact flip_flip z
  rw [e]
  refine ⟨hzs, fun M => ?_⟩
  rw [hzn]
  have hl : ∀ r' (h : r' < 16), v (lane r') = f ⟨r', h⟩ := fun r' h => congrArg v (funext fun a => Fin.ext (by
    fin_cases a
    show r' % 16 = r'
    exact Nat.mod_eq_of_lt h))
  constructor
  · rintro ⟨h0, h⟩ r' hr'
    rw [hl r' (by omega)]
    rcases Nat.eq_zero_or_pos r' with h00 | hpos
    · subst h00; exact h0
    · exact h ⟨r', by omega⟩ (by
        rw [List.mem_filter]
        exact ⟨List.mem_finRange _, by simp; omega⟩)
  · intro h
    refine ⟨?_, fun k hk => ?_⟩
    · have := h 0 (Nat.zero_le _)
      rwa [hl 0 (by decide)] at this
    · rw [List.mem_filter] at hk
      have hk2 := of_decide_eq_true hk.2
      have := h k.val (by omega)
      rwa [hl k.val k.isLt] at this

theorem lane_self (i : S16.Idx) : lane (i 0).val = i := funext fun a => Fin.ext (by
  fin_cases a
  exact Nat.mod_eq_of_lt (i 0).isLt)

/-! ## One trip of the running maximum: sixteen words with the carry -/

theorem pay22_le (a : BitVec 32) (v : IVec S16 32) (ha : a.toNat < 2 ^ 31) (hv : ∀ i, (v i).toNat < 2 ^ 31) (r : ℕ) (hr : r < 16) :
    (k0_pay22 (F := F) a v (lane r)).toNat < 2 ^ 31
    ∧ ∀ M, (k0_pay22 (F := F) a v (lane r)).toNat ≤ M ↔ a.toNat ≤ M ∧ ∀ r' ≤ r, (v (lane r')).toNat ≤ M := by
  obtain ⟨hs, hn⟩ := scan_flip v hv r hr
  have e : (k0_pay22 (F := F) a v (lane r)).toNat = max _ a.toNat := maxsi_small hs ha
  rw [e]
  refine ⟨by omega, fun M => ?_⟩
  rw [max_le_iff, hn]
  exact and_comm

theorem pay23_le (a : BitVec 32) (v : IVec S16 32) (ha : a.toNat < 2 ^ 31) (hv : ∀ i, (v i).toNat < 2 ^ 31) :
    (extractAt ![15] (k0_pay23 (F := F) a v) inpos_S16_p15).toNat < 2 ^ 31
    ∧ ∀ M, (extractAt ![15] (k0_pay23 (F := F) a v) inpos_S16_p15).toNat ≤ M ↔ a.toNat ≤ M ∧ ∀ r' < 16, (v (lane r')).toNat ≤ M := by
  have h22 : ∀ i, (k0_pay22 (F := F) a v i).toNat < 2 ^ 31 := fun i => by
    rw [← lane_self i]; exact (pay22_le a v ha hv _ (i 0).isLt).1
  have e : extractAt ![15] (k0_pay23 (F := F) a v) inpos_S16_p15 = k0_pay23 (F := F) a v (lane 15) :=
    congrArg (k0_pay23 (F := F) a v) (funext fun b => Fin.ext (by fin_cases b; rfl))
  rw [e]
  obtain ⟨hs, hn⟩ := scan_flip (k0_pay22 (F := F) a v) h22 15 (by decide)
  refine ⟨hs, fun M => (hn M).trans ⟨fun h => ?_, fun h r hr => ?_⟩⟩
  · have := (pay22_le (F := F) a v ha hv 15 (by decide)).2 M |>.1 (h 15 le_rfl)
    exact ⟨this.1, fun r' hr' => this.2 r' (by omega)⟩
  · exact (pay22_le (F := F) a v ha hv r (by omega)).2 M |>.2 ⟨h.1, fun r' hr' => h.2 r' (by omega)⟩

/-- The mask word the kernel extracts after gathering one word into all lanes is that word, when it is small. -/
theorem pay2_const (w : BitVec 32) (hw : w.toNat < 2 ^ 31) : extractAt ![15] (k0_pay2 (F := F) (fun _ => w)) inpos_S16_p15 = w := by
  obtain ⟨hs, hn⟩ := scan_flip (fun _ => w) (fun _ => hw) 15 (by decide)
  have e : extractAt ![15] (k0_pay2 (F := F) (fun _ => w)) inpos_S16_p15 = k0_pay2 (F := F) (fun _ => w) (lane 15) :=
    congrArg (k0_pay2 (F := F) (fun _ => w)) (funext fun b => Fin.ext (by fin_cases b; rfl))
  rw [e]
  apply BitVec.eq_of_toNat_eq
  apply le_antisymm
  · exact (hn _).2 fun _ _ => le_rfl
  · exact (hn _).1 le_rfl 0 (Nat.zero_le _)

/-! ## The scatter's positions -/

theorem pay18_le (p : FVec F S16 .f32) (a b : IVec S16 32) (i : S16.Idx) : (k0_pay18 p a b i).toNat ≤ 4096 := by
  have e : (k0_pay18 p a b i).toNat = min (4096#32 : BitVec 32).toNat _ := minsi_small (show (4096#32 : BitVec 32).toNat < 2 ^ 31 by decide) (maxsi_zero_small _)
  rw [e]
  exact Nat.min_le_left _ _

theorem pay20_toNat (p : FVec F S16 .f32) (a b : IVec S16 32) (i : S16.Idx) : (k0_pay20 p a b i).toNat = min (k0_pay18 p a b i).toNat 4095 :=
  minsi_small (by have := pay18_le p a b i; omega) (show (4095#32 : BitVec 32).toNat < 2 ^ 31 by decide)

theorem pay20_lt (p : FVec F S16 .f32) (a b : IVec S16 32) (i : S16.Idx) : (k0_pay20 p a b i).toNat < 4096 := by
  rw [pay20_toNat]; omega

end Cert.Proof.Resample
-- ==== Proof.Offsets.lean ====
/-
  Closed forms of the offsets the kernel computes, and the one index check that holds of the trip number alone.
-/
module

public import proofs.«01_k».proof.Proof.Base

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## Offsets and trip counts -/

theorem off1_eq : ∀ k : Fin k0_t1_loop.trips, k0_off1 k = ![k.val / 8, k.val % 8 * 16] := by decide +kernel
theorem off6_eq : ∀ k : Fin k0_t4_loop.trips, k0_off6 k = ![k.val / 8, k.val % 8 * 16] := by decide +kernel
theorem off10_eq : ∀ k : Fin k0_t7_loop.trips, k0_off10 k = ![0, k.val / 8, k.val % 8 * 16] := by decide +kernel
theorem off11_eq : ∀ k : Fin k0_t7_loop.trips, k0_off11 k = ![1, k.val / 8, k.val % 8 * 16] := by decide +kernel
theorem off12_eq : ∀ k : Fin k0_t7_loop.trips, k0_off12 k = ![2, k.val / 8, k.val % 8 * 16] := by decide +kernel
theorem off13_eq : ∀ k : Fin k0_t7_loop.trips, k0_off13 k = ![3, k.val / 8, k.val % 8 * 16] := by decide +kernel
theorem off14_eq : ∀ k : Fin k0_t7_loop.trips, k0_off14 k = ![4, k.val / 8, k.val % 8 * 16] := by decide +kernel
theorem off15_eq : ∀ k : Fin k0_t7_loop.trips, k0_off15 k = ![5, k.val / 8, k.val % 8 * 16] := by decide +kernel
theorem off16_eq : ∀ k : Fin k0_t7_loop.trips, k0_off16 k = ![6, k.val / 8, k.val % 8 * 16] := by decide +kernel
theorem off17_eq : ∀ k : Fin k0_t7_loop.trips, k0_off17 k = ![7, k.val / 8, k.val % 8 * 16] := by decide +kernel

theorem chk2_holds (v16 : BitVec 32) : ∀ k : Fin k0_t4_loop.trips, k0_chk2 v16 (k0_pay7 (k0_pay4 lanes 0#32 1#32 k) 0#32) (k0_pay8 (k0_pay4 lanes 0#32 1#32 k) 0#32) := by
  have H : ∀ k : Fin k0_t4_loop.trips, ∀ a x, ((![k0_pay7 (k0_pay4 lanes 0#32 1#32 k) 0#32, k0_pay8 (k0_pay4 lanes 0#32 1#32 k) 0#32] : Fin 2 → IVec S16 32) a x).toNat < S32x128.size a := by
    decide +kernel
  exact fun k _ => H k

end Cert.Proof.Resample
-- ==== Proof.Model.lean ====
/-
  What the resampling kernel's integer buffer holds, as plain functions of a row of cumulative weights: the scatter of each
  weight's number at the place its interval of output positions starts, and the running maximum over it. The words stay
  below 4096 whatever the float values are, which is what keeps every gather and scatter inside its buffer.
-/
module

public import proofs.«01_k».proof.Proof.Words
public import proofs.«01_k».proof.Proof.Offsets

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## Indices by number -/

/-- Position `n` of the index buffer (modulo its length). -/
def ix1 (n : ℕ) : S4096.Idx := fun a => ⟨n % S4096.size a, Nat.mod_lt _ (by fin_cases a; decide)⟩

theorem ix1_val {n : ℕ} (h : n < 4096) : ((ix1 n) 0).val = n := Nat.mod_eq_of_lt h

theorem ix1_self (i : S4096.Idx) : ix1 (i 0).val = i := funext fun a => Fin.ext (by
  fin_cases a
  exact Nat.mod_eq_of_lt (i 0).isLt)

theorem off5_eq : ∀ k : Fin k0_t3_loop.trips, k0_off5 k = ![16 * k.val] := by decide +kernel
theorem off7_eq : ∀ k : Fin k0_t5_loop.trips, k0_off7 k = ![16 * k.val] := by decide +kernel
theorem off9_eq : ∀ k : Fin k0_t7_loop.trips, k0_off9 k = ![16 * k.val] := by decide +kernel

theorem window16 {α : Type} (f : S4096.Idx → α) (k : ℕ) (hk : k < 256) (off : Fin 1 → ℕ) (h : off = ![16 * k]) (inb) (y : S16.Idx) :
    VecWindow.window f off S16.size inb y = f (ix1 (16 * k + (y 0).val)) := by
  subst h
  refine congrArg f (funext fun a => Fin.ext ?_)
  fin_cases a
  have := (y 0).isLt
  show 16 * k + 1 * (y 0).val = (16 * k + (y 0).val) % 4096
  rw [Nat.mod_eq_of_lt (by have : (y 0).val < 16 := (y 0).isLt; omega)]; omega

theorem put16 {α : Type} (f : S4096.Idx → α) (k : ℕ) (off : Fin 1 → ℕ) (h : off = ![16 * k]) (w : S16.Idx → α) (n : ℕ) (hn : n < 4096) :
    VecWindow.put f off S16.size w (ix1 n) = if 16 * k ≤ n ∧ n < 16 * k + 16 then w (lane (n - 16 * k)) else f (ix1 n) := by
  subst h
  unfold VecWindow.put
  by_cases hc : 16 * k ≤ n ∧ n < 16 * k + 16
  · rw [dif_pos (fun a => by fin_cases a; show 16 * k ≤ n % 4096 ∧ n % 4096 < 16 * k + 16; rw [Nat.mod_eq_of_lt hn]; exact hc), if_pos hc]
    refine congrArg w (funext fun a => Fin.ext ?_)
    fin_cases a
    show n % 4096 - 16 * k = (n - 16 * k) % 16
    rw [Nat.mod_eq_of_lt hn, Nat.mod_eq_of_lt (by omega)]
  · rw [dif_neg (fun hh => hc (by have := hh 0; change 16 * k ≤ n % 4096 ∧ n % 4096 < 16 * k + 16 at this; rwa [Nat.mod_eq_of_lt hn] at this)), if_neg hc]

/-! ## The scatter -/

/-- Writing in turn at the places a list names leaves at each place the word of some of the list that names it, or else what was there. -/
theorem foldl_cases {I α K : Type} (P : K → Prop) (pl : K → I) (val : K → α) (step : (I → α) → K → I → α) (j : I)
    (h1 : ∀ g k, P k → pl k = j → step g k j = val k) (h2 : ∀ g k, P k → pl k ≠ j → step g k j = g j) (h3 : ∀ g k, ¬ P k → step g k j = g j) (l : List K) :
    ∀ g, (∃ k ∈ l, P k ∧ pl k = j ∧ l.foldl step g j = val k) ∨ ((∀ k ∈ l, P k → pl k ≠ j) ∧ l.foldl step g j = g j) := by
  induction l with
  | nil => exact fun g => Or.inr ⟨fun k hk => by simp at hk, rfl⟩
  | cons k l ih =>
    intro g
    rw [List.foldl_cons]
    rcases ih (step g k) with ⟨k', hk', g1, g2, g3⟩ | ⟨g1, g2⟩
    · exact Or.inl ⟨k', List.mem_cons_of_mem _ hk', g1, g2, g3⟩
    · by_cases hm : P k
      · by_cases hj : pl k = j
        · exact Or.inl ⟨k, List.mem_cons_self, hm, hj, g2.trans (h1 g k hm hj)⟩
        · refine Or.inr ⟨fun k' hk' => ?_, g2.trans (h2 g k hm hj)⟩
          rcases List.mem_cons.mp hk' with rfl | hk'
          · exact fun _ => hj
          · exact g1 k' hk'
      · refine Or.inr ⟨fun k' hk' => ?_, g2.trans (h3 g k hm)⟩
        rcases List.mem_cons.mp hk' with rfl | hk'
        · exact fun hh => absurd hh hm
        · exact g1 k' hk'

/-- A scatter without adding leaves at each place the word of some set lane that names it, or else what was there. -/
theorem storeIdx_cases {s : Shape} (f : Vec F s .i32) (idxs : Fin s.rank → IVec S16 32) (v : Vec F S16 .i32) (mask : IVec S16 1)
    (h : ∀ a x, (idxs a x).toNat < s.size a) (j : s.Idx) :
    (∃ x, mask x = 1 ∧ idxAt idxs h x = j ∧ storeIdx (F := F) (e := .i32) f idxs v mask false h j = v x)
    ∨ ((∀ x, mask x = 1 → idxAt idxs h x ≠ j) ∧ storeIdx (F := F) (e := .i32) f idxs v mask false h j = f j) := by
  have hl : ∀ x : S16.Idx, Shape.ofLane (d := ![16]) (x 0) = x := fun x => funext fun a => Fin.ext (by fin_cases a; rfl)
  unfold storeIdx
  simp only [Bool.false_eq_true, ↓reduceIte]
  rcases foldl_cases (I := s.Idx) (α := Elt F .i32) (K := Fin (![16] 0)) (fun k => mask (Shape.ofLane k) = 1) (fun k => idxAt idxs h (Shape.ofLane k)) (fun k => v (Shape.ofLane k))
    (fun g k => if mask (Shape.ofLane k) = 1 then fun j => if (∀ a, (j a).val = (idxAt idxs h (Shape.ofLane k) a).val) then v (Shape.ofLane k) else g j else g) j
    (fun g k hp hj => by rw [if_pos hp, if_pos (fun a => by rw [hj])])
    (fun g k hp hj => by rw [if_pos hp, if_neg (fun hh => hj (funext fun a => Fin.ext (hh a).symm))])
    (fun g k hp => by rw [if_neg hp]) (List.finRange (![16] 0)) f with ⟨k, _, h1, h2, h3⟩ | ⟨h1, h2⟩
  · exact Or.inl ⟨_, h1, h2, h3⟩
  · exact Or.inr ⟨fun x => by have := h1 (x 0) (List.mem_finRange _); rwa [hl x] at this, h2⟩

/-- The cumulative weights of trip `k`'s lanes, in 8192ths. -/
def curOf (c : Vec F S32x128 .f32) (k : Fin k0_t4_loop.trips) : FVec F S16 .f32 :=
  k0_pay3 (VecWindow.window c (k0_off6 k) S1x16.size (k0_off6_inb k))

/-- The cumulative weights just before those, zero before the first. -/
def prevOf (c : Vec F S32x128 .f32) (k : Fin k0_t4_loop.trips) : FVec F S16 .f32 :=
  k0_pay9 (k0_pay5 lanes 0#32 1#32 k) (loadIdx (e := .f32) c ![k0_pay7 (k0_pay4 lanes 0#32 1#32 k) 0#32, k0_pay8 (k0_pay4 lanes 0#32 1#32 k) 0#32]
    (k0_idx2_inb 1#32 _ _ (chk2_holds 1#32 k) (by decide)))

/-- How many output positions lie at or below each of trip `k`'s cumulative weights; -/
def curCount (c : Vec F S32x128 .f32) (k : Fin k0_t4_loop.trips) : IVec S16 32 :=
  k0_pay12 (curOf c k) (k0_pay10 (curOf c k)) (k0_pay11 (curOf c k))
/-- and below those just before. -/
def prevCount (c : Vec F S32x128 .f32) (k : Fin k0_t4_loop.trips) : IVec S16 32 :=
  k0_pay18 (prevOf c k) (k0_pay13 (prevOf c k)) k0_pay14

/-- The scatter's positions, -/
def posOf (c : Vec F S32x128 .f32) (k : Fin k0_t4_loop.trips) : IVec S16 32 := k0_pay20 (prevOf c k) (k0_pay13 (prevOf c k)) k0_pay14
/-- its mask, -/
def actOf (c : Vec F S32x128 .f32) (k : Fin k0_t4_loop.trips) : IVec S16 1 := k0_pay21 (prevOf c k) (curCount c k) (k0_pay13 (prevOf c k)) k0_pay14
/-- and the numbers it scatters. -/
def numOf (k : Fin k0_t4_loop.trips) : IVec S16 32 := k0_pay19 lanes (Scf.iv 0#32 1#32 k)

theorem posOf_inb (c : Vec F S32x128 .f32) (k : Fin k0_t4_loop.trips) : ∀ a x, ((![posOf c k] : Fin 1 → IVec S16 32) a x).toNat < S4096.size a := by
  intro a x
  fin_cases a
  exact pay20_lt _ _ _ x

/-- One trip of the scatter. -/
def scatStep (c : Vec F S32x128 .f32) (k : Fin k0_t4_loop.trips) (g : Vec F S4096 .i32) : Vec F S4096 .i32 :=
  storeIdx (F := F) (e := .i32) g ![posOf c k] (numOf k) (actOf c k) false (posOf_inb c k)

/-- The index buffer after `n` trips of the scatter. -/
def scatN (c : Vec F S32x128 .f32) : ℕ → Vec F S4096 .i32
  | 0 => fun _ => (0#32 : BitVec 32)
  | n + 1 => if h : n < k0_t4_loop.trips then scatStep c ⟨n, h⟩ (scatN c n) else scatN c n

theorem scatN_succ (c : Vec F S32x128 .f32) (k : Fin k0_t4_loop.trips) : scatN c (k.val + 1) = scatStep c k (scatN c k.val) := by
  show (if h : k.val < k0_t4_loop.trips then scatStep c ⟨k.val, h⟩ (scatN c k.val) else scatN c k.val) = _
  rw [dif_pos k.isLt]

theorem numOf_val : ∀ k : Fin k0_t4_loop.trips, ∀ x : S16.Idx, (numOf k x).toNat = 16 * k.val + (x 0).val := by
  decide +kernel

/-! ## The running maximum -/

/-- The index buffer and the carry after `n` trips of the running maximum. -/
def cmN (z : Vec F S4096 .i32) : ℕ → Vec F S4096 .i32 × BitVec 32
  | 0 => (z, 0#32)
  | n + 1 => if h : n < k0_t5_loop.trips then
      let w : Vec F S16 .i32 := VecWindow.window (cmN z n).1 (k0_off7 ⟨n, h⟩) S16.size (k0_off7_inb ⟨n, h⟩)
      (VecWindow.put (cmN z n).1 (k0_off7 ⟨n, h⟩) S16.size (k0_pay22 (F := F) (cmN z n).2 w), extractAt ![15] (k0_pay23 (F := F) (cmN z n).2 w) inpos_S16_p15)
    else cmN z n

theorem cmN_succ (z : Vec F S4096 .i32) (k : Fin k0_t5_loop.trips) : cmN z (k.val + 1)
    = (VecWindow.put (cmN z k.val).1 (k0_off7 k) S16.size (k0_pay22 (F := F) (cmN z k.val).2 (VecWindow.window (cmN z k.val).1 (k0_off7 k) S16.size (k0_off7_inb k))),
       extractAt ![15] (k0_pay23 (F := F) (cmN z k.val).2 (VecWindow.window (cmN z k.val).1 (k0_off7 k) S16.size (k0_off7_inb k))) inpos_S16_p15) := by
  show (if h : k.val < k0_t5_loop.trips then _ else _) = _
  rw [dif_pos k.isLt]

/-- After `n` trips the first `16 n` places hold least upper bounds, the others are untouched, and the carry is the bound of the former. -/
theorem cmN_le (z : Vec F S4096 .i32) (hz : ∀ i, (z i : BitVec 32).toNat < 2 ^ 31) : ∀ n ≤ 256,
    (∀ m < 4096, m < 16 * n → ((cmN z n).1 (ix1 m) : BitVec 32).toNat < 2 ^ 31 ∧ ∀ M, ((cmN z n).1 (ix1 m) : BitVec 32).toNat ≤ M ↔ ∀ m' ≤ m, (z (ix1 m') : BitVec 32).toNat ≤ M)
    ∧ (∀ m < 4096, 16 * n ≤ m → (cmN z n).1 (ix1 m) = z (ix1 m))
    ∧ (cmN z n).2.toNat < 2 ^ 31 ∧ ∀ M, (cmN z n).2.toNat ≤ M ↔ ∀ m' < 16 * n, (z (ix1 m') : BitVec 32).toNat ≤ M := by
  intro n
  induction n with
  | zero => exact fun _ => ⟨fun m _ h => by omega, fun m _ _ => rfl, show (0#32 : BitVec 32).toNat < 2 ^ 31 by decide, fun M => by simp [cmN]⟩
  | succ n ih =>
    intro hn
    obtain ⟨h1, h2, h3, h4⟩ := ih (by omega)
    let k : Fin k0_t5_loop.trips := ⟨n, show n < 256 by omega⟩
    have hs := cmN_succ z k
    change cmN z (n + 1) = _ at hs
    rw [hs]
    have hk : k.val = n := rfl
    rw [hk]
    set w : Vec F S16 .i32 := VecWindow.window (cmN z n).1 (k0_off7 k) S16.size (k0_off7_inb k) with hw
    have hwv : ∀ y : S16.Idx, w y = z (ix1 (16 * n + (y 0).val)) := fun y => by
      rw [hw, window16 _ n (by omega) _ (off7_eq k)]
      exact h2 _ (by have : (y 0).val < 16 := (y 0).isLt; omega) (by omega)
    have hwl : ∀ r < 16, w (lane r) = z (ix1 (16 * n + r)) := fun r hr => by
      rw [hwv]
      have : (lane r 0).val = r := Nat.mod_eq_of_lt hr
      rw [this]
    have hws : ∀ y, (w y : BitVec 32).toNat < 2 ^ 31 := fun y => by rw [hwv]; exact hz _
    refine ⟨fun m hm hmn => ?_, fun m hm hmn => ?_, ?_⟩
    · show ((VecWindow.put (cmN z n).1 (k0_off7 k) S16.size _ (ix1 m)) : BitVec 32).toNat < _ ∧ ∀ M, ((VecWindow.put (cmN z n).1 (k0_off7 k) S16.size _ (ix1 m)) : BitVec 32).toNat ≤ M ↔ _
      rw [put16 _ n _ (off7_eq k) _ m hm]
      by_cases hc : 16 * n ≤ m
      · rw [if_pos ⟨hc, by omega⟩]
        obtain ⟨g1, g2⟩ := pay22_le (F := F) (cmN z n).2 w h3 hws (m - 16 * n) (by omega)
        refine ⟨g1, fun M => ?_⟩
        rw [g2, h4]
        constructor
        · rintro ⟨ha, hb⟩ m' hm'
          by_cases hlt : m' < 16 * n
          · exact ha m' hlt
          · have := hb (m' - 16 * n) (by omega)
            rw [hwl _ (by omega)] at this
            rwa [show 16 * n + (m' - 16 * n) = m' by omega] at this
        · intro hb
          refine ⟨fun m' hm' => hb m' (by omega), fun r hr => ?_⟩
          rw [hwl _ (by omega)]
          exact hb _ (by omega)
      · rw [if_neg (by omega)]
        exact h1 m hm (by omega)
    · show VecWindow.put (cmN z n).1 (k0_off7 k) S16.size _ (ix1 m) = _
      rw [put16 _ n _ (off7_eq k) _ m hm, if_neg (by omega)]
      exact h2 m hm (by omega)
    · obtain ⟨g1, g2⟩ := pay23_le (F := F) (cmN z n).2 w h3 hws
      refine ⟨g1, fun M => (g2 M).trans ?_⟩
      rw [h4]
      constructor
      · rintro ⟨ha, hb⟩ m' hm'
        by_cases hlt : m' < 16 * n
        · exact ha m' hlt
        · have := hb (m' - 16 * n) (by omega)
          rw [hwl _ (by omega)] at this
          rwa [show 16 * n + (m' - 16 * n) = m' by omega] at this
      · intro hb
        refine ⟨fun m' hm' => hb m' (by omega), fun r hr => ?_⟩
        rw [hwl _ (by omega)]
        exact hb _ (by omega)

/-! ## The row's indices, and their range -/

/-- Which state each output position takes, of the row whose cumulative weights are `c`. -/
def idxOf (c : Vec F S32x128 .f32) : Vec F S4096 .i32 := (cmN (scatN c 256) 256).1

theorem scatN_lt (c : Vec F S32x128 .f32) (n : ℕ) (i : S4096.Idx) : (scatN c n i : BitVec 32).toNat < 4096 := by
  induction n generalizing i with
  | zero => show (0#32 : BitVec 32).toNat < 4096; decide
  | succ n ih =>
    show ((if h : n < k0_t4_loop.trips then scatStep c ⟨n, h⟩ (scatN c n) else scatN c n) i : BitVec 32).toNat < 4096
    by_cases h : n < k0_t4_loop.trips
    · rw [dif_pos h]
      unfold scatStep
      rcases storeIdx_cases (scatN c n) ![posOf c ⟨n, h⟩] (numOf ⟨n, h⟩) (actOf c ⟨n, h⟩) (posOf_inb c ⟨n, h⟩) i with ⟨x, _, _, h3⟩ | ⟨_, h3⟩
      · rw [h3, numOf_val]
        have h256 : n < 256 := h
        have : (x 0).val < 16 := (x 0).isLt
        show 16 * n + (x 0).val < 4096
        omega
      · rw [h3]; exact ih i
    · rw [dif_neg h]; exact ih i

theorem cm_small (c : Vec F S32x128 .f32) (i : S4096.Idx) : (scatN c 256 i : BitVec 32).toNat < 2 ^ 31 :=
  lt_of_lt_of_le (scatN_lt c 256 i) (by norm_num)

theorem idxOf_le (c : Vec F S32x128 .f32) (m : ℕ) (hm : m < 4096) (M : ℕ) :
    (idxOf c (ix1 m) : BitVec 32).toNat ≤ M ↔ ∀ m' ≤ m, (scatN c 256 (ix1 m') : BitVec 32).toNat ≤ M :=
  ((cmN_le (scatN c 256) (cm_small c) 256 le_rfl).1 m hm (by omega)).2 M

theorem idxOf_lt (c : Vec F S32x128 .f32) (i : S4096.Idx) : (idxOf c i : BitVec 32).toNat < 4096 := by
  rw [← ix1_self i]
  have := (idxOf_le c (i 0).val (i 0).isLt 4095).2 fun m' _ => by have := scatN_lt c 256 (ix1 m'); omega
  omega

end Cert.Proof.Resample
-- ==== Proof.Trips.lean ====
/-
  One trip of each of the kernel's inner loops that work in tile memory alone: the fill of the constant row, the clearing of
  the index buffer, the scatter, and the running maximum.
-/
module

public import proofs.«01_k».proof.Proof.Model

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## Whole buffers -/

/-- A store through a whole buffer at a unit rectangle puts the payload over that window. -/
theorem whole_writes_put {κ : Kind} {b : Ref sig κ} (f : b.ty.Contents (Elt F)) {off size : Fin b.ty.shape.rank → ℕ}
    (inb : ∀ a, off a + size a ≤ b.ty.shape.size a) (w) :
    (View.whole b).writes (Elt F) f [⟨Rect.unit off size inb, w⟩] = VecWindow.put f off size w := by
  have := View.read_writes_cons_put (Val := Elt F) (View.whole b) f inb w [] rfl
  exact this

abbrev fillV : F .f32 := Scalar.ofBits .f32 0x39800000#32

def inv1 (d : Dev nD) (L : grid0.Coords) (k : ℕ) (_ : PUnit) : sProp 𝕄 :=
  iprop(∃ f : S32x128.Idx → F .f32, ⌜∀ y : S32x128.Idx, 128 * (y 0).val + (y 1).val < 16 * k → f y = fillV⌝ ∗ (rwB).view.loc (thr d L) ↦{fullShare} f)

theorem trip1 (d : Dev nD) (L : grid0.Coords) (k : Fin k0_t1_loop.trips) (a : Unit) :
    inv1 (F := F) d L k.val a ⊢ wp frame (wpE (defs₀ (F := F)) 𝒱₀ (thr d L) none) Set.univ
      (body1 L k a) fun r => inv1 d L (k.val + 1) r := by
  unfold body1 k0_t1_body inv1
  iintro ⟨%f, %hf, H⟩
  sl_exec
  sl_step
  rw [whole_writes_put]
  iexists VecWindow.put (s := S32x128) f (k0_off1 k) S1x16.size (shapeCast S1x16 (k0_pay1 (F := F)) shapeCasts_S16_S1x16)
  isplitl []
  · ipureintro
    intro y hy
    have hk : k.val < 256 := k.isLt
    have hy0 : (y 0).val < 32 := (y 0).isLt
    have hy1 : (y 1).val < 128 := (y 1).isLt
    have ho := off1_eq k
    rw [ho]
    unfold VecWindow.put
    by_cases hc : ∀ a : Fin 2, ![k.val / 8, k.val % 8 * 16] a ≤ (y a).val ∧ (y a).val < ![k.val / 8, k.val % 8 * 16] a + S1x16.size a
    · rw [dif_pos hc]; rfl
    · rw [dif_neg hc]
      refine hf y ?_
      by_contra hlt
      refine hc fun a => ?_
      fin_cases a
      · show k.val / 8 ≤ (y 0).val ∧ (y 0).val < k.val / 8 + 1; omega
      · show k.val % 8 * 16 ≤ (y 1).val ∧ (y 1).val < k.val % 8 * 16 + 16; omega
  · iexact H

def inv3 (d : Dev nD) (L : grid0.Coords) (k : ℕ) (_ : PUnit) : sProp 𝕄 :=
  iprop(∃ f : S4096.Idx → BitVec 32, ⌜∀ i : S4096.Idx, (i 0).val < 16 * k → f i = 0#32⌝ ∗ (ixB).view.loc (thr d L) ↦{fullShare} f)

theorem trip3 (d : Dev nD) (L : grid0.Coords) (t2 : Fin k0_t2_loop.trips) (v8 v16 : BitVec 32) (h2 : k0_cond2 v16 = 1#1) (k : Fin k0_t3_loop.trips) (a : Unit) :
    inv3 (F := F) d L k.val a ⊢ wp frame (wpE (defs₀ (F := F)) 𝒱₀ (thr d L) none) Set.univ
      (body3 L lanes t2 v8 v16 h2 k a) fun r => inv3 d L (k.val + 1) r := by
  unfold body3 k0_t3_body inv3
  iintro ⟨%f, %hf, H⟩
  sl_exec
  sl_step
  rw [whole_writes_put]
  iexists _
  isplitl []
  · ipureintro
    intro i hi
    rw [← ix1_self i]
    rw [← ix1_self i, ix1_val (i 0).isLt] at hi
    refine (put16 (α := BitVec 32) f k.val _ (off5_eq k) k0_pay17 _ (i 0).isLt).trans ?_
    by_cases hc : 16 * k.val ≤ (i 0).val ∧ (i 0).val < 16 * k.val + 16
    · rw [if_pos hc]; rfl
    · rw [if_neg hc]
      exact hf _ (by rw [ix1_val (i 0).isLt]; omega)
  · iexact H

def inv5 (d : Dev nD) (L : grid0.Coords) (z : Vec F S4096 .i32) (k : ℕ) (acc : BitVec 32) : sProp 𝕄 :=
  iprop(⌜acc = (cmN z k).2⌝ ∗ (ixB).view.loc (thr d L) ↦{fullShare} (cmN z k).1)

theorem trip5 (d : Dev nD) (L : grid0.Coords) (t2 : Fin k0_t2_loop.trips) (v8 v16 : BitVec 32) (h2 : k0_cond2 v16 = 1#1) (z : Vec F S4096 .i32)
    (k : Fin k0_t5_loop.trips) (acc : BitVec 32) :
    inv5 (F := F) d L z k.val acc ⊢ wp frame (wpE (defs₀ (F := F)) 𝒱₀ (thr d L) none) Set.univ
      (body5 L lanes t2 v8 v16 h2 k acc) fun r => inv5 d L z (k.val + 1) r := by
  unfold body5 k0_t5_body inv5
  iintro ⟨%ha, H⟩
  subst ha
  sl_exec
  sl_step
  rw [whole_writes_put, cmN_succ]
  isplitl []
  · ipureintro; rfl
  · iexact H

end Cert.Proof.Resample
-- ==== Proof.Trip4.lean ====
/-
  One trip of the scatter loop: sixteen cumulative weights and the sixteen just before them give the places their numbers
  are written to.
-/
module

public import proofs.«01_k».proof.Proof.Trips

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## Indexed loads and stores of whole buffers -/

theorem access_whole_read {κ : Kind} {b : Ref sig κ} (f : b.ty.Contents (Elt F)) : ((Memref.whole b).access (Rect.whole b.ty.shape)).read (Elt F) f = f := by
  have h : ((View.whole b).slice (Rect.whole b.ty.shape)).read (Elt F) f = (View.whole b).read (Elt F) f := by
    funext i
    show f ((Rect.whole b.ty.shape).emb i) = f i
    rw [Rect.emb_whole_apply]
  exact h

theorem access_whole_set {κ : Kind} {b : Ref sig κ} : ((Memref.whole b).access (Rect.whole b.ty.shape)).set = Finset.univ := by
  show ((View.whole b).slice (Rect.whole b.ty.shape)).set = Finset.univ
  rw [View.set_slice_whole]
  exact Rect.set_whole _

theorem access_whole_write {κ : Kind} {b : Ref sig κ} (f w : b.ty.Contents (Elt F)) : ((Memref.whole b).access (Rect.whole b.ty.shape)).write (Elt F) f w Finset.univ = w := by
  have h := View.read_write_univ (v := (Memref.whole b).access (Rect.whole b.ty.shape)) (Val := Elt F) f w
  rwa [access_whole_read] at h

theorem gather_c (d : Dev nD) (L : grid0.Coords) {t : Shape} {α : Type} {Q : α → sProp 𝕄} {idxs : Fin S32x128.rank → IVec t 32}
    {h : ∀ a x, (idxs a x).toNat < S32x128.size a} {hl : (cB).view.Loads} {k : Vec F t .f32 → Prog (TpuEff nD τ sig (Elt F) Λ₀ (thr d L).2) α} (f : Vec F S32x128 .f32) :
    ((cB).view.loc (thr d L) ↦{fullShare} f) ⊢ iprop((((cB).view.loc (thr d L) ↦{fullShare} f) -∗ wp frame (wpE (defs₀ (F := F)) 𝒱₀ (thr d L) none) Set.univ (k (loadIdx f idxs h)) Q)
      -∗ wp frame (wpE (defs₀ (F := F)) 𝒱₀ (thr d L) none) Set.univ (SparseCore.vectorLoadIdx cB idxs h hl >>= k) Q) := by
  have := SparseCore.wp_vectorLoadIdx (defs := defs₀ (F := F)) (Q := Q) (h := h) (hl := hl) (k := k) 𝒱₀ (thr d L) none Set.univ (base := cB) (S := Finset.univ) (q := fullShare) (f := f) (Finset.subset_univ _)
  rw [access_whole_read] at this
  exact this

theorem gather_m (d : Dev nD) (L : grid0.Coords) {t : Shape} {α : Type} {Q : α → sProp 𝕄} {idxs : Fin S256.rank → IVec t 32}
    {h : ∀ a x, (idxs a x).toNat < S256.size a} {hl : (mkB).view.Loads} {k : Vec F t .i32 → Prog (TpuEff nD τ sig (Elt F) Λ₀ (thr d L).2) α} (f : Vec F S256 .i32) :
    ((mkB).view.loc (thr d L) ↦{fullShare} f) ⊢ iprop((((mkB).view.loc (thr d L) ↦{fullShare} f) -∗ wp frame (wpE (defs₀ (F := F)) 𝒱₀ (thr d L) none) Set.univ (k (loadIdx f idxs h)) Q)
      -∗ wp frame (wpE (defs₀ (F := F)) 𝒱₀ (thr d L) none) Set.univ (SparseCore.vectorLoadIdx mkB idxs h hl >>= k) Q) := by
  have := SparseCore.wp_vectorLoadIdx (defs := defs₀ (F := F)) (Q := Q) (h := h) (hl := hl) (k := k) 𝒱₀ (thr d L) none Set.univ (base := mkB) (S := Finset.univ) (q := fullShare) (f := f) (Finset.subset_univ _)
  rw [access_whole_read] at this
  exact this

theorem gather_r (d : Dev nD) (L : grid0.Coords) {t : Shape} {α : Type} {Q : α → sProp 𝕄} {idxs : Fin S8x32x128.rank → IVec t 32}
    {h : ∀ a x, (idxs a x).toNat < S8x32x128.size a} {hl : (rB).view.Loads} {k : Vec F t .f32 → Prog (TpuEff nD τ sig (Elt F) Λ₀ (thr d L).2) α} (f : Vec F S8x32x128 .f32) :
    ((rB).view.loc (thr d L) ↦{fullShare} f) ⊢ iprop((((rB).view.loc (thr d L) ↦{fullShare} f) -∗ wp frame (wpE (defs₀ (F := F)) 𝒱₀ (thr d L) none) Set.univ (k (loadIdx f idxs h)) Q)
      -∗ wp frame (wpE (defs₀ (F := F)) 𝒱₀ (thr d L) none) Set.univ (SparseCore.vectorLoadIdx rB idxs h hl >>= k) Q) := by
  have := SparseCore.wp_vectorLoadIdx (defs := defs₀ (F := F)) (Q := Q) (h := h) (hl := hl) (k := k) 𝒱₀ (thr d L) none Set.univ (base := rB) (S := Finset.univ) (q := fullShare) (f := f) (Finset.subset_univ _)
  rw [access_whole_read] at this
  exact this

theorem scatter_x (d : Dev nD) (L : grid0.Coords) {α : Type} {Q : α → sProp 𝕄} {idxs : Fin S4096.rank → IVec S16 32} {v : Vec F S16 .i32} {mask : IVec S16 1}
    {h : ∀ a x, (idxs a x).toNat < S4096.size a} {hs : ((ixB).access (.whole S4096)).Stores Finset.univ} {k : PUnit → Prog (TpuEff nD τ sig (Elt F) Λ₀ (thr d L).2) α} (f : Vec F S4096 .i32) :
    ((ixB).view.loc (thr d L) ↦{fullShare} f) ⊢ iprop((((ixB).view.loc (thr d L) ↦{fullShare} storeIdx f idxs v mask false h) -∗ wp frame (wpE (defs₀ (F := F)) 𝒱₀ (thr d L) none) Set.univ (k ⟨⟩) Q)
      -∗ wp frame (wpE (defs₀ (F := F)) 𝒱₀ (thr d L) none) Set.univ (SparseCore.vectorStoreIdx ixB idxs v mask false h hs >>= k) Q) := by
  have := SparseCore.wp_vectorStoreIdx (defs := defs₀ (F := F)) (Q := Q) (h := h) (hs := hs) (k := k) 𝒱₀ (thr d L) none Set.univ (base := ixB) (f := f) (v := v) (mask := mask) (add := false)
  rw [access_whole_read, access_whole_write, access_whole_set] at this
  exact this

/-! ## The trip -/

def inv4 (d : Dev nD) (L : grid0.Coords) (c : Vec F S32x128 .f32) (k : ℕ) (_ : PUnit) : sProp 𝕄 :=
  iprop(((cB).view.loc (thr d L) ↦{fullShare} c) ∗ (ixB).view.loc (thr d L) ↦{fullShare} scatN c k)

theorem trip4 (d : Dev nD) (L : grid0.Coords) (t2 : Fin k0_t2_loop.trips) (v8 v16 : BitVec 32) (h2 : k0_cond2 v16 = 1#1) (c : Vec F S32x128 .f32)
    (k : Fin k0_t4_loop.trips) (a : Unit) :
    inv4 (F := F) d L c k.val a ⊢ wp frame (wpE (defs₀ (F := F)) 𝒱₀ (thr d L) none) Set.univ
      (body4 L lanes t2 v8 v16 h2 k a) fun r => inv4 d L c (k.val + 1) r := by
  unfold body4 k0_t4_body inv4
  rw [k0_part1_eq_skeleton, k0_part2_eq_skeleton, k0_part3_eq_skeleton]
  unfold k0_part1_skel k0_part2_skel k0_part3_skel
  iintro ⟨Hc, Hx⟩
  sl_exec
  unfold trip4.sl.v70 trip4.sl.v72 trip4.sl.arg16
  rw [wp_assume_of _ _ _ _ (chk2_holds v16 k)]
  simp only [bind_assoc, pure_bind]
  iapply (gather_c (F := F) d L c) $$ Hc
  iintro Hc
  have hk3 : k0_chk3 v16 (posOf c k) := fun _ => posOf_inb c k
  unfold posOf prevOf at hk3
  simp only [Prog.bind_lift]
  rw [wp_assume_of _ _ _ _ hk3]
  iapply (scatter_x (F := F) d L (scatN c k.val)) $$ Hx
  iintro Hx
  sl_step
  isplitl [Hc]
  · iexact Hc
  · rw [scatN_succ]
    iexact Hx

end Cert.Proof.Resample
-- ==== Proof.Trip7.lean ====
/-
  One trip of the gather loop: sixteen of the row's indices, split into a row and a column, take eight feature rows' states
  each.
-/
module

public import proofs.«01_k».proof.Proof.Trip4
public import Idealize.ShloMosaic.Lib.Pipeline.Value

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## The indices split, and the gathered rows -/

theorem shr7_toNat {x : BitVec 32} (hx : x.toNat < 4096) : (IntOp.shrsi .vector x 7#32).toNat = x.toNat / 128 := by
  have hm : x.msb = false := by
    rw [BitVec.msb_eq_false_iff_two_mul_lt]; omega
  have h : IntOp.shrsi .vector x 7#32 = x >>> 7 := by
    unfold IntOp.shrsi
    rw [if_pos (by decide), BitVec.sshiftRight', BitVec.sshiftRight_eq_of_msb_false hm]
    rfl
  rw [h, BitVec.toNat_ushiftRight, Nat.shiftRight_eq_div_pow]

theorem and127_toNat (x : BitVec 32) : (IntOp.andi x 127#32).toNat = x.toNat % 128 := by
  show (x &&& 127#32).toNat = _
  rw [BitVec.toNat_and]
  exact Nat.and_two_pow_sub_one_eq_mod x.toNat 7

/-- Element `(i, j, k)` of a block of feature rows (each modulo its extent). -/
def ix3 (i j k : ℕ) : S8x32x128.Idx := fun a => ⟨(![i, j, k] : Fin 3 → ℕ) a % S8x32x128.size a, Nat.mod_lt _ (by fin_cases a <;> decide)⟩

/-- The number of a place in a row kept as 32 times 128. -/
abbrev flat (y : S8x32x128.Idx) : ℕ := 128 * (y 1).val + (y 2).val

/-- What the gather leaves at an element: its feature row's state at the row's index. -/
def gat (r : Vec F S8x32x128 .f32) (ix : Vec F S4096 .i32) : Vec F S8x32x128 .f32 :=
  fun y => r (ix3 (y 0).val ((ix (ix1 (flat y)) : BitVec 32).toNat / 128) ((ix (ix1 (flat y)) : BitVec 32).toNat % 128))

theorem chk_rows (ix : IVec S16 32) (hix : ∀ x, (ix x).toNat < 4096) (n : BitVec 32) (hn : n.toNat < 8) :
    ∀ a x, ((![broadcast S16 n, k0_pay15 (F := F) ix, k0_pay16 (F := F) ix] : Fin 3 → IVec S16 32) a x).toNat < S8x32x128.size a := by
  intro a x
  fin_cases a
  · exact hn
  · show (IntOp.shrsi .vector (ix x) 7#32).toNat < 32
    rw [shr7_toNat (hix x)]
    have := hix x
    omega
  · show (IntOp.andi (ix x) 127#32).toNat < 128
    rw [and127_toNat]
    omega

theorem loadIdx_rows (r : Vec F S8x32x128 .f32) (ix : IVec S16 32) (hix : ∀ x, (ix x).toNat < 4096) (n : BitVec 32) (hn : n.toNat < 8) (h) (x : S16.Idx) :
    loadIdx (e := .f32) r ![broadcast S16 n, k0_pay15 (F := F) ix, k0_pay16 (F := F) ix] h x = r (ix3 n.toNat ((ix x).toNat / 128) ((ix x).toNat % 128)) := by
  refine congrArg r (funext fun a => Fin.ext ?_)
  have := hix x
  fin_cases a
  · show n.toNat = n.toNat % 8
    omega
  · show (IntOp.shrsi .vector (ix x) 7#32).toNat = (ix x).toNat / 128 % 32
    rw [shr7_toNat (hix x)]; omega
  · show (IntOp.andi (ix x) 127#32).toNat = (ix x).toNat % 128 % 128
    rw [and127_toNat]; omega

theorem put_row (f : S8x32x128.Idx → F .f32) (k : ℕ) (n : ℕ) (off : Fin 3 → ℕ) (ho : off = ![n, k / 8, k % 8 * 16]) (w : S16.Idx → F .f32) (y : S8x32x128.Idx) :
    VecWindow.put f off S1x1x16.size (shapeCast S1x1x16 w shapeCasts_S16_S1x1x16) y
      = if (y 0).val = n ∧ 16 * k ≤ flat y ∧ flat y < 16 * k + 16 then w (lane (flat y - 16 * k)) else f y := by
  subst ho
  have hy2 : (y 2).val < 128 := (y 2).isLt
  unfold VecWindow.put
  by_cases hc : (y 0).val = n ∧ 16 * k ≤ flat y ∧ flat y < 16 * k + 16
  · have hc' := hc
    unfold flat at hc'
    rw [if_pos hc, dif_pos (fun a => by
      fin_cases a
      · show n ≤ (y 0).val ∧ (y 0).val < n + 1; omega
      · show k / 8 ≤ (y 1).val ∧ (y 1).val < k / 8 + 1; omega
      · show k % 8 * 16 ≤ (y 2).val ∧ (y 2).val < k % 8 * 16 + 16; omega)]
    refine shapeCast_apply _ _ _ _ ?_
    rw [Shape.rowMajor_val_one, Shape.rowMajor_val_three]
    show (flat y - 16 * k) % 16 = (((y 0).val - n) * 1 + ((y 1).val - k / 8)) * 16 + ((y 2).val - k % 8 * 16)
    unfold flat
    omega
  · rw [if_neg hc, dif_neg]
    intro hh
    have h0 : n ≤ (y 0).val ∧ (y 0).val < n + 1 := hh 0
    have h1 : k / 8 ≤ (y 1).val ∧ (y 1).val < k / 8 + 1 := hh 1
    have h2 : k % 8 * 16 ≤ (y 2).val ∧ (y 2).val < k % 8 * 16 + 16 := hh 2
    unfold flat at hc
    omega

/-- Whether an element is one of the sixteen that trip `k` fills, in a feature row before the `n`th. -/
abbrev filled (k n : ℕ) (y : S8x32x128.Idx) : Prop := (y 0).val < n ∧ 16 * k ≤ flat y ∧ flat y < 16 * k + 16

/-- The store of one more feature row. -/
theorem put_gat (r : Vec F S8x32x128 .f32) (ix : Vec F S4096 .i32) (hix : ∀ i, (ix i : BitVec 32).toNat < 4096) (k : ℕ) (I : IVec S16 32) (hI : ∀ x, I x = ix (ix1 (16 * k + (x 0).val)))
    (f A : S8x32x128.Idx → F .f32) (n : ℕ) (b : BitVec 32) (hb : b.toNat = n) (hn : n < 8) (hA : ∀ y, A y = if filled k n y then gat r ix y else f y)
    (off : Fin 3 → ℕ) (ho : off = ![n, k / 8, k % 8 * 16]) (h) (y : S8x32x128.Idx) :
    VecWindow.put A off S1x1x16.size (shapeCast S1x1x16 (loadIdx (e := .f32) r ![broadcast S16 b, k0_pay15 (F := F) I, k0_pay16 (F := F) I] h : S16.Idx → F .f32) shapeCasts_S16_S1x1x16) y
      = if filled k (n + 1) y then gat r ix y else f y := by
  rw [put_row A k n off ho, hA]
  by_cases hc : (y 0).val = n ∧ 16 * k ≤ flat y ∧ flat y < 16 * k + 16
  · rw [if_pos hc, if_pos (show filled k (n + 1) y from ⟨by omega, hc.2⟩), loadIdx_rows r I (fun x => by rw [hI]; exact hix _) b (by omega)]
    have e : I (lane (flat y - 16 * k)) = ix (ix1 (flat y)) := by
      rw [hI]
      refine congrArg (fun m => ix (ix1 m)) ?_
      show 16 * k + (flat y - 16 * k) % 16 = flat y
      omega
    rw [e, hb, ← hc.1]
    rfl
  · rw [if_neg hc]
    by_cases hd : filled k n y
    · rw [if_pos hd, if_pos (show filled k (n + 1) y from ⟨Nat.lt_succ_of_lt hd.1, hd.2⟩)]
    · rw [if_neg hd, if_neg]
      intro he
      rcases Nat.lt_succ_iff_lt_or_eq.mp he.1 with h1 | h1
      · exact hd ⟨h1, he.2⟩
      · exact hc ⟨h1, he.2⟩

theorem whole_writes_cons {κ : Kind} {b : Ref sig κ} (f : b.ty.Contents (Elt F)) {off size : Fin b.ty.shape.rank → ℕ}
    (inb : ∀ a, off a + size a ≤ b.ty.shape.size a) (w) (ps) :
    (Memref.whole b).view.writes (Elt F) f (⟨Rect.unit off size inb, w⟩ :: ps) = VecWindow.put ((Memref.whole b).view.writes (Elt F) f ps) off size w :=
  View.read_writes_cons_put (Val := Elt F) (View.whole b) f inb w ps rfl

/-! ## The trip -/

def inv7 (d : Dev nD) (L : grid0.Coords) (ix : Vec F S4096 .i32) (r : Vec F S8x32x128 .f32) (k : ℕ) (_ : PUnit) : sProp 𝕄 :=
  iprop(((ixB).view.loc (thr d L) ↦{fullShare} ix) ∗ ((rB).view.loc (thr d L) ↦{fullShare} r)
    ∗ ∃ f : S8x32x128.Idx → F .f32, ⌜∀ y, flat y < 16 * k → f y = gat r ix y⌝ ∗ (oB).view.loc (thr d L) ↦{fullShare} f)

theorem trip7 (d : Dev nD) (L : grid0.Coords) (t2 : Fin k0_t2_loop.trips) (v8 v16 : BitVec 32) (h2 : k0_cond2 v16 = 1#1)
    (ix : Vec F S4096 .i32) (hix : ∀ i, (ix i : BitVec 32).toNat < 4096) (r : Vec F S8x32x128 .f32) (k : Fin k0_t7_loop.trips) (a : Unit) :
    inv7 (F := F) d L ix r k.val a ⊢ wp frame (wpE (defs₀ (F := F)) 𝒱₀ (thr d L) none) Set.univ
      (body7 L lanes t2 v8 v16 h2 k a) fun q => inv7 d L ix r (k.val + 1) q := by
  unfold body7 k0_t7_body inv7
  rw [k0_part4_eq_skeleton, k0_part5_eq_skeleton]
  unfold k0_part4_skel k0_part5_skel
  iintro ⟨Hx, Hr, %f, %hf, Ho⟩
  sl_exec
  unfold trip7.sl.v39 trip7.sl.v41 trip7.sl.v70
  obtain ⟨I, hI⟩ : ∃ I : Vec F S16 .i32, I = VecWindow.window ix (k0_off9 k) S16.size (k0_off9_inb k) := ⟨_, rfl⟩
  have hIv : ∀ x, I x = ix (ix1 (16 * k.val + (x 0).val)) := fun x => by rw [hI]; exact window16 ix k.val k.isLt _ (off9_eq k) _ x
  have hIlt : ∀ x, (I x : BitVec 32).toNat < 4096 := fun x => by rw [hIv]; exact hix _
  have hw : (ixB).view.readAt (Elt F) (Rect.unit (s := S4096) (k0_off9 k) S16.size (k0_off9_inb k)).toLoadRect ix = I := hI.symm
  rw [hw]
  have hk0 : k0_chk4 v16 (k0_pay15 (F := F) I) (k0_pay16 (F := F) I) (broadcast S16 0#32) := fun _ => chk_rows (F := F) I hIlt 0#32 (by decide)
  rw [wp_assume_of _ _ _ _ hk0]
  rw [bind_assoc]
  iapply (gather_r (F := F) d L r) $$ Hr
  iintro Hr
  sl_exec
  unfold trip7.sl.v76
  have hk1 : k0_chk5 v16 (k0_pay15 (F := F) I) (k0_pay16 (F := F) I) (broadcast S16 1#32) := fun _ => chk_rows (F := F) I hIlt 1#32 (by decide)
  rw [wp_assume_of _ _ _ _ hk1]
  rw [bind_assoc]
  iapply (gather_r (F := F) d L r) $$ Hr
  iintro Hr
  sl_exec
  unfold trip7.sl.v82
  have hk2 : k0_chk6 v16 (k0_pay15 (F := F) I) (k0_pay16 (F := F) I) (broadcast S16 2#32) := fun _ => chk_rows (F := F) I hIlt 2#32 (by decide)
  rw [wp_assume_of _ _ _ _ hk2]
  rw [bind_assoc]
  iapply (gather_r (F := F) d L r) $$ Hr
  iintro Hr
  sl_exec
  unfold trip7.sl.v88
  have hk3 : k0_chk7 v16 (k0_pay15 (F := F) I) (k0_pay16 (F := F) I) (broadcast S16 3#32) := fun _ => chk_rows (F := F) I hIlt 3#32 (by decide)
  rw [wp_assume_of _ _ _ _ hk3]
  rw [bind_assoc]
  iapply (gather_r (F := F) d L r) $$ Hr
  iintro Hr
  sl_exec
  unfold trip7.sl.v94
  have hk4 : k0_chk8 v16 (k0_pay15 (F := F) I) (k0_pay16 (F := F) I) (broadcast S16 4#32) := fun _ => chk_rows (F := F) I hIlt 4#32 (by decide)
  rw [wp_assume_of _ _ _ _ hk4]
  rw [bind_assoc]
  iapply (gather_r (F := F) d L r) $$ Hr
  iintro Hr
  sl_exec
  unfold trip7.sl.v100
  have hk5 : k0_chk9 v16 (k0_pay15 (F := F) I) (k0_pay16 (F := F) I) (broadcast S16 5#32) := fun _ => chk_rows (F := F) I hIlt 5#32 (by decide)
  rw [wp_assume_of _ _ _ _ hk5]
  rw [bind_assoc]
  iapply (gather_r (F := F) d L r) $$ Hr
  iintro Hr
  sl_exec
  unfold trip7.sl.v106
  have hk6 : k0_chk10 v16 (k0_pay15 (F := F) I) (k0_pay16 (F := F) I) (broadcast S16 6#32) := fun _ => chk_rows (F := F) I hIlt 6#32 (by decide)
  rw [wp_assume_of _ _ _ _ hk6]
  iapply (gather_r (F := F) d L r) $$ Hr
  iintro Hr
  sl_exec
  unfold trip7.sl.v112
  have hk7 : k0_chk11 v16 (k0_pay15 (F := F) I) (k0_pay16 (F := F) I) (broadcast S16 7#32) := fun _ => chk_rows (F := F) I hIlt 7#32 (by decide)
  rw [wp_assume_of _ _ _ _ hk7]
  iapply (gather_r (F := F) d L r) $$ Hr
  iintro Hr
  sl_exec
  sl_step
  isplitl [Hx]
  · iexact Hx
  isplitl [Hr]
  · iexact Hr
  iexists _
  isplitr
  rotate_left
  · iexact Ho
  · ipureintro
    intro y hy
    rw [whole_writes_cons, whole_writes_cons, whole_writes_cons, whole_writes_cons, whole_writes_cons, whole_writes_cons, whole_writes_cons, whole_writes_cons, View.writes_nil]
    refine (put_gat r ix hix k.val I hIv f _ 7 7#32 rfl (by decide) ?_ _ (off17_eq k) _ y).trans ?_
    · refine put_gat r ix hix k.val I hIv f _ 6 6#32 rfl (by decide) ?_ _ (off16_eq k) _
      · refine put_gat r ix hix k.val I hIv f _ 5 5#32 rfl (by decide) ?_ _ (off15_eq k) _
        · refine put_gat r ix hix k.val I hIv f _ 4 4#32 rfl (by decide) ?_ _ (off14_eq k) _
          · refine put_gat r ix hix k.val I hIv f _ 3 3#32 rfl (by decide) ?_ _ (off13_eq k) _
            · refine put_gat r ix hix k.val I hIv f _ 2 2#32 rfl (by decide) ?_ _ (off12_eq k) _
              · refine put_gat r ix hix k.val I hIv f _ 1 1#32 rfl (by decide) ?_ _ (off11_eq k) _
                · refine put_gat r ix hix k.val I hIv f _ 0 0#32 rfl (by decide) ?_ _ (off10_eq k) _
                  exact fun y => (if_neg (fun h => absurd h.1 (Nat.not_lt_zero _))).symm
    · by_cases hc : filled k.val 8 y
      · exact if_pos hc
      · rw [if_neg hc]
        refine hf y ?_
        have : (y 0).val < 8 := (y 0).isLt
        by_contra hn
        exact hc ⟨this, by omega, by omega⟩

end Cert.Proof.Resample
-- ==== Proof.Slices.lean ====
/-
  The parts of the arrays that a tile's copies move: where they lie, what a copy out of one reads and what a copy into one
  leaves.
-/
module

public import proofs.«01_k».proof.Proof.Trip7

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## Where a tile's batches lie -/

/-- The tile's number among the thirty-two. -/
abbrev wid (L : grid0.Coords) : ℕ := 2 * (L 1).val + (L 0).val
/-- The batch of the tile's trip `t`. -/
abbrev bn (L : grid0.Coords) (t : ℕ) : ℕ := 8 * wid L + t

theorem wid_lt (L : grid0.Coords) : wid L < 32 := by
  have h0 : (L 0).val < 2 := (L 0).isLt
  have h1 : (L 1).val < 16 := (L 1).isLt
  unfold wid; omega

/-- The batch's number as the kernel computes it. -/
abbrev batch (L : grid0.Coords) (t : ℕ) : BitVec 32 :=
  Scalar.addi (Scalar.muli (Scalar.addi (Scalar.muli (BitVec.ofNat 32 (L 1).val) 2#32) (BitVec.ofNat 32 (L 0).val)) 8#32) (Scf.iv 0#32 1#32 t)

theorem batch_toNat (L : grid0.Coords) (t : ℕ) (ht : t < 8) : (batch L t).toNat = bn L t := by
  have h0 : (L 0).val < 2 := (L 0).isLt
  have h1 : (L 1).val < 16 := (L 1).isLt
  show ((BitVec.ofNat 32 (L 1).val * 2#32 + BitVec.ofNat 32 (L 0).val) * 8#32 + (0#32 + BitVec.ofNat 32 t * 1#32)).toNat = _
  simp only [BitVec.toNat_add, BitVec.toNat_mul, BitVec.toNat_ofNat]
  unfold bn wid; omega

theorem off2_eq (L : grid0.Coords) (t : Fin k0_t2_loop.trips) : k0_off2 L t = ![32 * bn L t.val, 0, 0] := by
  have hb := batch_toNat L t.val t.isLt
  have hw := wid_lt L
  have ht : t.val < 8 := t.isLt
  show ![(batch L t.val * 32#32).toNat, 0, 0] = _
  rw [BitVec.toNat_mul, hb]
  congr 1
  show bn L t.val * 32 % 4294967296 = _
  unfold bn; omega

theorem off3_eq (L : grid0.Coords) (t : Fin k0_t2_loop.trips) : k0_off3 L t = ![bn L t.val, 0, 0] := by
  show ![(batch L t.val).toNat, 0, 0] = _
  rw [batch_toNat L t.val t.isLt]

theorem off4_eq (L : grid0.Coords) (t : Fin k0_t2_loop.trips) : k0_off4 L t = ![bn L t.val, 0, 0] := by
  show ![(batch L t.val).toNat, 0, 0] = _
  rw [batch_toNat L t.val t.isLt]

theorem off8_eq (L : grid0.Coords) (t : Fin k0_t2_loop.trips) (t6 : Fin k0_t6_loop.trips) : k0_off8 L t t6 = ![32 * bn L t.val + 8 * t6.val, 0, 0] := by
  have hb := batch_toNat L t.val t.isLt
  have hw := wid_lt L
  have ht : t.val < 8 := t.isLt
  have ht6 : t6.val < 4 := t6.isLt
  show ![(batch L t.val * 32#32 + (0#32 + BitVec.ofNat 32 t6.val * 1#32) * 8#32).toNat, 0, 0] = _
  simp only [BitVec.toNat_add, BitVec.toNat_mul, BitVec.toNat_ofNat, hb]
  congr 1
  unfold bn; omega

/-! ## The parts, as the kernel cuts them -/

abbrev stR (L : grid0.Coords) (t : Fin k0_t2_loop.trips) := (stW).slice (Rect.unit (s := S8192x32x128) (k0_off2 L t) S32x32x128.size (k0_off2_inb L t)) (fun _ => rfl)
abbrev osR (L : grid0.Coords) (t : Fin k0_t2_loop.trips) := (osW).slice (Rect.unit (s := S8192x32x128) (k0_off2 L t) S32x32x128.size (k0_off2_inb L t)) (fun _ => rfl)
abbrev osG (L : grid0.Coords) (t : Fin k0_t2_loop.trips) (t6 : Fin k0_t6_loop.trips) := (osW).slice (Rect.unit (s := S8192x32x128) (k0_off8 L t t6) S8x32x128.size (k0_off8_inb L t t6)) (fun _ => rfl)
abbrev owR (L : grid0.Coords) (t : Fin k0_t2_loop.trips) := ((owW).slice (Rect.unit (s := S256x32x128) (k0_off3 L t) S1x32x128.size (k0_off3_inb L t)) (fun _ => rfl)).squeeze S32x128 squeezes_S1x32x128_S32x128
abbrev owG (L : grid0.Coords) (t : Fin k0_t2_loop.trips) := ((owW).slice (Rect.unit (s := S256x32x128) (k0_off4 L t) S1x32x128.size (k0_off4_inb L t)) (fun _ => rfl)).squeeze S32x128 squeezes_S1x32x128_S32x128

/-! ## What a copy into a part leaves -/

theorem writes_all {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  rw [View.writes_singleton]
  have he : ∀ x, (v.slice (Rect.whole s)).emb x = v.emb x := fun x => by
    show v.emb ((Rect.whole s).emb x) = _
    rw [Rect.emb_whole_apply]
  funext i
  by_cases hi : i ∈ v.set
  · obtain ⟨x, -, rfl⟩ := Finset.mem_map.mp hi
    rw [View.write_emb_of_mem _ _ (Finset.mem_univ _), ← he x, View.write_emb_of_mem _ _ (Finset.mem_univ _)]
  · rw [View.write_of_not_mem _ _ _ (by rw [View.setOn_univ]; exact fun hm => hi (View.set_slice_subset _ _ hm)), View.write_of_not_mem _ _ _ (by rwa [View.setOn_univ])]

theorem land_put {κ : Kind} {b : Ref sig κ} (f : b.ty.Contents (Elt F)) (off size : Fin b.ty.shape.rank → ℕ) (inb : ∀ a, off a + size a ≤ b.ty.shape.size a)
    (w : (Rect.unit off size inb).shape.Idx → Elt F b.ty.elt) :
    ((View.whole b).slice (Rect.unit off size inb)).writes (Elt F) f [⟨Rect.whole _, w⟩] = VecWindow.put f off size w := by
  rw [writes_all]
  exact whole_writes_put f inb w

/-- An element of the states' array, and one of its rows. -/
def ix8 (i j k : ℕ) : S8192x32x128.Idx := fun a => ⟨(![i, j, k] : Fin 3 → ℕ) a % S8192x32x128.size a, Nat.mod_lt _ (by fin_cases a <;> decide)⟩
def ix2 (i j : ℕ) : S32x128.Idx := fun a => ⟨(![i, j] : Fin 2 → ℕ) a % S32x128.size a, Nat.mod_lt _ (by fin_cases a <;> decide)⟩
def ix32 (i j k : ℕ) : S32x32x128.Idx := fun a => ⟨(![i, j, k] : Fin 3 → ℕ) a % S32x32x128.size a, Nat.mod_lt _ (by fin_cases a <;> decide)⟩
def ixw (i j k : ℕ) : S256x32x128.Idx := fun a => ⟨(![i, j, k] : Fin 3 → ℕ) a % S256x32x128.size a, Nat.mod_lt _ (by fin_cases a <;> decide)⟩

theorem put8 {α : Type} (f : S8192x32x128.Idx → α) (o : ℕ) (off : Fin 3 → ℕ) (ho : off = ![o, 0, 0]) (w : S8x32x128.Idx → α) (y : S8192x32x128.Idx) :
    VecWindow.put f off S8x32x128.size w y = if o ≤ (y 0).val ∧ (y 0).val < o + 8 then w (ix3 ((y 0).val - o) (y 1).val (y 2).val) else f y := by
  subst ho
  have h1 : (y 1).val < 32 := (y 1).isLt
  have h2 : (y 2).val < 128 := (y 2).isLt
  unfold VecWindow.put
  by_cases hc : o ≤ (y 0).val ∧ (y 0).val < o + 8
  · rw [if_pos hc, dif_pos (fun a => by
      fin_cases a
      · exact hc
      · exact ⟨Nat.zero_le _, by show (y 1).val < 0 + 32; omega⟩
      · exact ⟨Nat.zero_le _, by show (y 2).val < 0 + 128; omega⟩)]
    refine congrArg w (funext fun a => Fin.ext ?_)
    fin_cases a
    · show (y 0).val - o = ((y 0).val - o) % 8; omega
    · show (y 1).val - 0 = (y 1).val % 32; omega
    · show (y 2).val - 0 = (y 2).val % 128; omega
  · rw [if_neg hc, dif_neg fun hh => hc (hh 0)]

theorem put32 {α : Type} (f : S8192x32x128.Idx → α) (o : ℕ) (off : Fin 3 → ℕ) (ho : off = ![o, 0, 0]) (w : S32x32x128.Idx → α) (y : S8192x32x128.Idx) :
    VecWindow.put f off S32x32x128.size w y = if o ≤ (y 0).val ∧ (y 0).val < o + 32 then w (ix32 ((y 0).val - o) (y 1).val (y 2).val) else f y := by
  subst ho
  have h1 : (y 1).val < 32 := (y 1).isLt
  have h2 : (y 2).val < 128 := (y 2).isLt
  unfold VecWindow.put
  by_cases hc : o ≤ (y 0).val ∧ (y 0).val < o + 32
  · rw [if_pos hc, dif_pos (fun a => by
      fin_cases a
      · exact hc
      · exact ⟨Nat.zero_le _, by show (y 1).val < 0 + 32; omega⟩
      · exact ⟨Nat.zero_le _, by show (y 2).val < 0 + 128; omega⟩)]
    refine congrArg w (funext fun a => Fin.ext ?_)
    fin_cases a
    · show (y 0).val - o = ((y 0).val - o) % 32; omega
    · show (y 1).val - 0 = (y 1).val % 32; omega
    · show (y 2).val - 0 = (y 2).val % 128; omega
  · rw [if_neg hc, dif_neg fun hh => hc (hh 0)]

theorem reshape_row (h : S32x128.numel = S1x32x128.numel) (x : S32x128.Idx) (k : S1x32x128.Idx) (h0 : (k 1).val = (x 0).val) (h1 : (k 2).val = (x 1).val) : Shape.reshapeEquiv h x = k := by
  refine Shape.reshapeEquiv_eq_of_rowMajor h ?_
  rw [Shape.rowMajor_val_two, Shape.rowMajor_val_three]
  have hk : (k 0).val < 1 := (k 0).isLt
  show ((k 0).val * 32 + (k 1).val) * 128 + (k 2).val = (x 0).val * 128 + (x 1).val
  rw [h0, h1]; omega

theorem put1 {α : Type} (f : S256x32x128.Idx → α) (o : ℕ) (off : Fin 3 → ℕ) (ho : off = ![o, 0, 0]) (h : S32x128.numel = S1x32x128.numel) (w : S32x128.Idx → α) (y : S256x32x128.Idx) :
    VecWindow.put f off S1x32x128.size (fun x => w ((Shape.reshapeEquiv h).symm x)) y = if (y 0).val = o then w (ix2 (y 1).val (y 2).val) else f y := by
  subst ho
  have h1 : (y 1).val < 32 := (y 1).isLt
  have h2 : (y 2).val < 128 := (y 2).isLt
  unfold VecWindow.put
  by_cases hc : (y 0).val = o
  · rw [if_pos hc, dif_pos (fun a => by
      fin_cases a
      · exact ⟨hc.ge, by show (y 0).val < o + 1; omega⟩
      · exact ⟨Nat.zero_le _, by show (y 1).val < 0 + 32; omega⟩
      · exact ⟨Nat.zero_le _, by show (y 2).val < 0 + 128; omega⟩)]
    refine congrArg w ?_
    rw [Equiv.symm_apply_eq]
    refine (reshape_row h _ _ ?_ ?_).symm
    · show (y 1).val - 0 = (y 1).val % 32; omega
    · show (y 2).val - 0 = (y 2).val % 128; omega
  · rw [if_neg hc, dif_neg]
    intro hh
    have h0 : o ≤ (y 0).val ∧ (y 0).val < o + 1 := hh 0
    omega

theorem land_squeeze {κ : Kind} {b : Ref sig κ} (f : b.ty.Contents (Elt F)) (off size : Fin b.ty.shape.rank → ℕ) (inb : ∀ a, off a + size a ≤ b.ty.shape.size a) {s' : Shape}
    (h : s'.numel = (Rect.unit off size inb).shape.numel) (w : s'.Idx → Elt F b.ty.elt) :
    (((View.whole b).slice (Rect.unit off size inb)).reshape s' h).writes (Elt F) f [⟨Rect.whole _, w⟩] = VecWindow.put f off size (fun x => w ((Shape.reshapeEquiv h).symm x)) := by
  rw [writes_all, View.write_reshape_univ]
  exact whole_writes_put f inb _

/-! ## The parts' sets -/

theorem mem_part8 (o : ℕ) (off : Fin 3 → ℕ) (ho : off = ![o, 0, 0]) (inb) (y : S8192x32x128.Idx) :
    y ∈ ((View.whole main_v15_0_scv).slice (Rect.unit (s := S8192x32x128) off S8x32x128.size inb)).set ↔ o ≤ (y 0).val ∧ (y 0).val < o + 8 := by
  subst ho
  have h1 : (y 1).val < 32 := (y 1).isLt
  have h2 : (y 2).val < 128 := (y 2).isLt
  rw [View.set_slice_whole]
  refine (Rect.mem_set_unit (s := S8192x32x128)).trans ⟨fun h => h 0, fun h a => ?_⟩
  fin_cases a
  · exact h
  · exact ⟨Nat.zero_le _, by show (y 1).val < 0 + 32; omega⟩
  · exact ⟨Nat.zero_le _, by show (y 2).val < 0 + 128; omega⟩

theorem mem_part32 (o : ℕ) (off : Fin 3 → ℕ) (ho : off = ![o, 0, 0]) (inb) (y : S8192x32x128.Idx) :
    y ∈ ((View.whole main_v15_0_scv).slice (Rect.unit (s := S8192x32x128) off S32x32x128.size inb)).set ↔ o ≤ (y 0).val ∧ (y 0).val < o + 32 := by
  subst ho
  have h1 : (y 1).val < 32 := (y 1).isLt
  have h2 : (y 2).val < 128 := (y 2).isLt
  rw [View.set_slice_whole]
  refine (Rect.mem_set_unit (s := S8192x32x128)).trans ⟨fun h => h 0, fun h a => ?_⟩
  fin_cases a
  · exact h
  · exact ⟨Nat.zero_le _, by show (y 1).val < 0 + 32; omega⟩
  · exact ⟨Nat.zero_le _, by show (y 2).val < 0 + 128; omega⟩

theorem mem_part1 (o : ℕ) (off : Fin 3 → ℕ) (ho : off = ![o, 0, 0]) (inb) (h : S32x128.numel = S1x32x128.numel) (y : S256x32x128.Idx) :
    y ∈ (((View.whole main_v15_1_scv).slice (Rect.unit (s := S256x32x128) off S1x32x128.size inb)).reshape S32x128 h).set ↔ (y 0).val = o := by
  subst ho
  have h1 : (y 1).val < 32 := (y 1).isLt
  have h2 : (y 2).val < 128 := (y 2).isLt
  rw [View.set_reshape, View.set_slice_whole]
  refine (Rect.mem_set_unit (s := S256x32x128)).trans ⟨fun h => ?_, fun h a => ?_⟩
  · have h0 : o ≤ (y 0).val ∧ (y 0).val < o + 1 := h 0
    omega
  · fin_cases a
    · show o ≤ (y 0).val ∧ (y 0).val < o + 1; omega
    · exact ⟨Nat.zero_le _, by show (y 1).val < 0 + 32; omega⟩
    · exact ⟨Nat.zero_le _, by show (y 2).val < 0 + 128; omega⟩

/-! ## A tile's share of the results -/

/-- The rows of the states' result that a tile writes, and the rows of the weights' result. -/
def osRows (L : grid0.Coords) : Finset S8192x32x128.Idx := Finset.univ.filter fun y => (y 0).val / 256 = wid L
def owRows (L : grid0.Coords) : Finset S256x32x128.Idx := Finset.univ.filter fun y => (y 0).val / 8 = wid L

theorem mem_osRows (L : grid0.Coords) (y : S8192x32x128.Idx) : y ∈ osRows L ↔ (y 0).val / 256 = wid L := by
  unfold osRows; rw [Finset.mem_filter]; exact ⟨fun h => h.2, fun h => ⟨Finset.mem_univ _, h⟩⟩
theorem mem_owRows (L : grid0.Coords) (y : S256x32x128.Idx) : y ∈ owRows L ↔ (y 0).val / 8 = wid L := by
  unfold owRows; rw [Finset.mem_filter]; exact ⟨fun h => h.2, fun h => ⟨Finset.mem_univ _, h⟩⟩

theorem osG_sub (L : grid0.Coords) (t : Fin k0_t2_loop.trips) (t6 : Fin k0_t6_loop.trips) : (osG L t t6).view.set ⊆ osRows L := by
  intro y hy
  have h := (mem_part8 _ _ (off8_eq L t t6) _ y).mp hy
  rw [mem_osRows]
  have ht : t.val < 8 := t.isLt
  have ht6 : t6.val < 4 := t6.isLt
  unfold bn at h; omega

theorem osR_sub (L : grid0.Coords) (t : Fin k0_t2_loop.trips) : (osR L t).view.set ⊆ osRows L := by
  intro y hy
  have h := (mem_part32 _ _ (off2_eq L t) _ y).mp hy
  rw [mem_osRows]
  have ht : t.val < 8 := t.isLt
  unfold bn at h; omega

theorem owR_sub (L : grid0.Coords) (t : Fin k0_t2_loop.trips) : (owR L t).view.set ⊆ owRows L := by
  intro y hy
  have h := (mem_part1 _ _ (off3_eq L t) _ _ y).mp hy
  rw [mem_owRows]
  have ht : t.val < 8 := t.isLt
  unfold bn at h; omega

theorem owG_sub (L : grid0.Coords) (t : Fin k0_t2_loop.trips) : (owG L t).view.set ⊆ owRows L := by
  intro y hy
  have h := (mem_part1 _ _ (off4_eq L t) _ _ y).mp hy
  rw [mem_owRows]
  have ht : t.val < 8 := t.isLt
  unfold bn at h; omega

/-- A part that is written changes nothing beside it, so it joins what it was cut from. -/
theorem rejoin {ℓ : Loc nD τ sig} {S R : Finset (Idx ℓ)} (h : S ⊆ R) {q : PosShare TreeShare} {f g : Buf (Elt F) ℓ} (hg : ∀ i, i ∉ S → g i = f i) :
    iprop((ℓ ↦[S]{q} g) ∗ ℓ ↦[R \ S]{q} f) ⊢ (ℓ ↦[R]{q} g : sProp 𝕄) := by
  rw [pointsTo_congr (I := R \ S) (f := f) (g := g) (fun i hi => (hg i (Finset.mem_sdiff.mp hi).2).symm)]
  exact (pointsTo_split_subset h).2

/-- What a copy into a part leaves beside the part. -/
theorem land_off {κ : Kind} {sp : Space} {s : Shape} {e : EltTy} (v : View sig κ sp s e) (f : v.ty.Contents (Elt F)) (w : s.Idx → Elt F e) (i) (hi : i ∉ v.set) :
    v.writes (Elt F) f [⟨Rect.whole s, w⟩] i = f i := by
  rw [writes_all, View.write_of_not_mem _ _ _ (by rwa [View.setOn_univ])]

theorem cut_osG (d : Dev nD) (L : grid0.Coords) (t : Fin k0_t2_loop.trips) (t6 : Fin k0_t6_loop.trips) (f : S8192x32x128.Idx → F .f32) :
    ((osW).view.loc (thr d L) ↦[osRows L]{fullShare} f : sProp 𝕄)
      ⊢ iprop(((osG L t t6).view.loc (thr d L) ↦[(osG L t t6).view.set]{fullShare} f) ∗ (osW).view.loc (thr d L) ↦[osRows L \ (osG L t t6).view.set]{fullShare} f) :=
  (pointsTo_split_subset (osG_sub L t t6)).1

theorem join_osG (d : Dev nD) (L : grid0.Coords) (t : Fin k0_t2_loop.trips) (t6 : Fin k0_t6_loop.trips) (f : S8192x32x128.Idx → F .f32) (w) :
    iprop(((osG L t t6).view.loc (thr d L) ↦[(osG L t t6).view.set]{fullShare} (osG L t t6).view.writes (Elt F) f [⟨Rect.whole _, w⟩])
        ∗ (osW).view.loc (thr d L) ↦[osRows L \ (osG L t t6).view.set]{fullShare} f)
      ⊢ ((osW).view.loc (thr d L) ↦[osRows L]{fullShare} ((osG L t t6).view.writes (Elt F) f [⟨Rect.whole _, w⟩] : S8192x32x128.Idx → F .f32) : sProp 𝕄) :=
  rejoin (osG_sub L t t6) fun i hi => land_off (osG L t t6).view f w i hi

theorem cut_osR (d : Dev nD) (L : grid0.Coords) (t : Fin k0_t2_loop.trips) (f : S8192x32x128.Idx → F .f32) :
    ((osW).view.loc (thr d L) ↦[osRows L]{fullShare} f : sProp 𝕄)
      ⊢ iprop(((osR L t).view.loc (thr d L) ↦[(osR L t).view.set]{fullShare} f) ∗ (osW).view.loc (thr d L) ↦[osRows L \ (osR L t).view.set]{fullShare} f) :=
  (pointsTo_split_subset (osR_sub L t)).1

theorem join_osR (d : Dev nD) (L : grid0.Coords) (t : Fin k0_t2_loop.trips) (f : S8192x32x128.Idx → F .f32) (w) :
    iprop(((osR L t).view.loc (thr d L) ↦[(osR L t).view.set]{fullShare} (osR L t).view.writes (Elt F) f [⟨Rect.whole _, w⟩])
        ∗ (osW).view.loc (thr d L) ↦[osRows L \ (osR L t).view.set]{fullShare} f)
      ⊢ ((osW).view.loc (thr d L) ↦[osRows L]{fullShare} ((osR L t).view.writes (Elt F) f [⟨Rect.whole _, w⟩] : S8192x32x128.Idx → F .f32) : sProp 𝕄) :=
  rejoin (osR_sub L t) fun i hi => land_off (osR L t).view f w i hi

theorem cut_owR (d : Dev nD) (L : grid0.Coords) (t : Fin k0_t2_loop.trips) (f : S256x32x128.Idx → F .f32) :
    ((owW).view.loc (thr d L) ↦[owRows L]{fullShare} f : sProp 𝕄)
      ⊢ iprop(((owR L t).view.loc (thr d L) ↦[(owR L t).view.set]{fullShare} f) ∗ (owW).view.loc (thr d L) ↦[owRows L \ (owR L t).view.set]{fullShare} f) :=
  (pointsTo_split_subset (owR_sub L t)).1

theorem join_owR (d : Dev nD) (L : grid0.Coords) (t : Fin k0_t2_loop.trips) (f : S256x32x128.Idx → F .f32) (w) :
    iprop(((owR L t).view.loc (thr d L) ↦[(owR L t).view.set]{fullShare} (owR L t).view.writes (Elt F) f [⟨Rect.whole _, w⟩])
        ∗ (owW).view.loc (thr d L) ↦[owRows L \ (owR L t).view.set]{fullShare} f)
      ⊢ ((owW).view.loc (thr d L) ↦[owRows L]{fullShare} ((owR L t).view.writes (Elt F) f [⟨Rect.whole _, w⟩] : S256x32x128.Idx → F .f32) : sProp 𝕄) :=
  rejoin (owR_sub L t) fun i hi => land_off (owR L t).view f w i hi

theorem cut_owG (d : Dev nD) (L : grid0.Coords) (t : Fin k0_t2_loop.trips) (f : S256x32x128.Idx → F .f32) :
    ((owW).view.loc (thr d L) ↦[owRows L]{fullShare} f : sProp 𝕄)
      ⊢ iprop(((owG L t).view.loc (thr d L) ↦[(owG L t).view.set]{fullShare} f) ∗ (owW).view.loc (thr d L) ↦[owRows L \ (owG L t).view.set]{fullShare} f) :=
  (pointsTo_split_subset (owG_sub L t)).1

theorem join_owG (d : Dev nD) (L : grid0.Coords) (t : Fin k0_t2_loop.trips) (f : S256x32x128.Idx → F .f32) (w) :
    iprop(((owG L t).view.loc (thr d L) ↦[(owG L t).view.set]{fullShare} (owG L t).view.writes (Elt F) f [⟨Rect.whole _, w⟩])
        ∗ (owW).view.loc (thr d L) ↦[owRows L \ (owG L t).view.set]{fullShare} f)
      ⊢ ((owW).view.loc (thr d L) ↦[owRows L]{fullShare} ((owG L t).view.writes (Elt F) f [⟨Rect.whole _, w⟩] : S256x32x128.Idx → F .f32) : sProp 𝕄) :=
  rejoin (owG_sub L t) fun i hi => land_off (owG L t).view f w i hi

/-! ## What a copy out of a part reads -/

theorem emb8 (o : ℕ) (off : Fin 3 → ℕ) (ho : off = ![o, 0, 0]) (inb : ∀ a : Fin 3, off a + S8x32x128.size a ≤ S8192x32x128.size a) (y : S8x32x128.Idx) :
    (Rect.unit (s := S8192x32x128) off S8x32x128.size inb).emb y = ix8 (o + (y 0).val) (y 1).val (y 2).val := by
  subst ho
  have hi : o + 8 ≤ 8192 := inb 0
  have h0 : (y 0).val < 8 := (y 0).isLt
  have h1 : (y 1).val < 32 := (y 1).isLt
  have h2 : (y 2).val < 128 := (y 2).isLt
  refine funext fun a => Fin.ext ?_
  fin_cases a
  · show o + 1 * (y 0).val = (o + (y 0).val) % 8192; omega
  · show 0 + 1 * (y 1).val = (y 1).val % 32; omega
  · show 0 + 1 * (y 2).val = (y 2).val % 128; omega

theorem emb32 (o : ℕ) (off : Fin 3 → ℕ) (ho : off = ![o, 0, 0]) (inb : ∀ a : Fin 3, off a + S32x32x128.size a ≤ S8192x32x128.size a) (y : S32x32x128.Idx) :
    (Rect.unit (s := S8192x32x128) off S32x32x128.size inb).emb y = ix8 (o + (y 0).val) (y 1).val (y 2).val := by
  subst ho
  have hi : o + 32 ≤ 8192 := inb 0
  have h0 : (y 0).val < 32 := (y 0).isLt
  have h1 : (y 1).val < 32 := (y 1).isLt
  have h2 : (y 2).val < 128 := (y 2).isLt
  refine funext fun a => Fin.ext ?_
  fin_cases a
  · show o + 1 * (y 0).val = (o + (y 0).val) % 8192; omega
  · show 0 + 1 * (y 1).val = (y 1).val % 32; omega
  · show 0 + 1 * (y 2).val = (y 2).val % 128; omega

theorem emb1 (o : ℕ) (off : Fin 3 → ℕ) (ho : off = ![o, 0, 0]) (inb : ∀ a : Fin 3, off a + S1x32x128.size a ≤ S256x32x128.size a) (h : S32x128.numel = S1x32x128.numel) (y : S32x128.Idx) :
    (Rect.unit (s := S256x32x128) off S1x32x128.size inb).emb (Shape.reshapeEquiv h y) = ixw o (y 0).val (y 1).val := by
  subst ho
  have hi : o + 1 ≤ 256 := inb 0
  have h1 : (y 0).val < 32 := (y 0).isLt
  have h2 : (y 1).val < 128 := (y 1).isLt
  rw [reshape_row h y (fun a => ⟨(![0, (y 0).val, (y 1).val] : Fin 3 → ℕ) a, by fin_cases a; exacts [Nat.one_pos, h1, h2]⟩) rfl rfl]
  refine funext fun a => Fin.ext ?_
  fin_cases a
  · show o + 1 * 0 = o % 256; omega
  · show 0 + 1 * (y 0).val = (y 0).val % 32; omega
  · show 0 + 1 * (y 1).val = (y 1).val % 128; omega

end Cert.Proof.Resample
-- ==== Proof.Trip6.lean ====
/-
  One trip of the loop over a batch's feature rows: eight rows in, the gather, eight rows out.
-/
module

public import proofs.«01_k».proof.Proof.Slices

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-- What the gather of a batch's states leaves: at each place the state its index names, of the same feature row. -/
def gatS (st : S8192x32x128.Idx → F .f32) (ix : Vec F S4096 .i32) (y : S8192x32x128.Idx) : F .f32 :=
  st (ix8 (y 0).val ((ix (ix1 (128 * (y 1).val + (y 2).val)) : BitVec 32).toNat / 128) ((ix (ix1 (128 * (y 1).val + (y 2).val)) : BitVec 32).toNat % 128))

/-- The tile's part of the states' result is right up to row `n`. -/
def osDone (d : Dev nD) (L : grid0.Coords) (G : S8192x32x128.Idx → F .f32) (n : ℕ) : sProp 𝕄 :=
  iprop(∃ f : S8192x32x128.Idx → F .f32, ⌜∀ y, 256 * wid L ≤ (y 0).val → (y 0).val < n → f y = G y⌝ ∗ (osW).view.loc (thr d L) ↦[osRows L]{fullShare} f)

/-- What the thread owes, with the waits it began with and none but local ones since. -/
def owing (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

def inv6 (d : Dev nD) (L : grid0.Coords) (q : PosShare TreeShare) (st : S8192x32x128.Idx → F .f32) (ix : Vec F S4096 .i32) (G : S8192x32x128.Idx → F .f32) (b : ℕ)
    (O : CellTallies nD τ sig (HIx 1)) (W : Waits sig (HIx 1)) (k : ℕ) (_ : PUnit) : sProp 𝕄 :=
  iprop(Transfers.MayWaits (thr d L) (none : HIx 1) O ∗ ((stW).view.loc (thr d L) ↦{q} st) ∗ ((ixB).view.loc (thr d L) ↦{fullShare} ix)
    ∗ (∃ r, (rB).view.loc (thr d L) ↦{fullShare} r) ∗ (∃ f, (oB).view.loc (thr d L) ↦{fullShare} f)
    ∗ osDone d L G (32 * b + 8 * k) ∗ semVal (thr d L, SemLoc.dma cc0_scoped4.sem) 0 ∗ semVal (thr d L, SemLoc.dma cc0_scoped5.sem) 0 ∗ owing d L O W)

theorem trip6 (d : Dev nD) (L : grid0.Coords) (q : PosShare TreeShare) (st : S8192x32x128.Idx → F .f32) (ix : Vec F S4096 .i32) (hix : ∀ i, (ix i : BitVec 32).toNat < 4096)
    (G : S8192x32x128.Idx → F .f32) (t2 : Fin k0_t2_loop.trips) (v8 v16 : BitVec 32) (h2 : k0_cond2 v16 = 1#1)
    (hG : ∀ y, 32 * bn L t2.val ≤ (y 0).val → (y 0).val < 32 * bn L t2.val + 32 → G y = gatS st ix y)
    (O : CellTallies nD τ sig (HIx 1)) (W : Waits sig (HIx 1)) (k : Fin k0_t6_loop.trips) (a : Unit) :
    inv6 (F := F) d L q st ix G (bn L t2.val) O W k.val a ⊢ wp frame (wpE (defs₀ (F := F)) 𝒱₀ (thr d L) none) Set.univ
      (body6 L lanes t2 v8 v16 h2 k a) fun r => inv6 d L q st ix G (bn L t2.val) O W (k.val + 1) r := by
  unfold body6 k0_t6_body inv6 osDone owing
  iintro ⟨#Hmw, Hst, Hix, ⟨%fr, Hr⟩, ⟨%fo, Ho⟩, ⟨%fO, %hfO, HO⟩, Hs4, Hs5, ⟨%W', %hW, Hw⟩⟩
  sl_exec
  obtain ⟨R, hR⟩ : ∃ R : S8x32x128.Idx → F .f32, R = trip6.sl.dma0 L st t2 k := ⟨_, rfl⟩
  have hr : View.write (Elt F) (rB).view fr (trip6.sl.dma0 L st t2 k) Finset.univ = R := by
    rw [hR]; exact View.write_whole_univ _ _ _
  rw [hr]
  sl_for (inv7 (F := F) d L ix R) $$ [Hix Hr Ho]
  case region =>
    intro k7 acc
    exact trip7 d L t2 v8 v16 h2 ix hix R k7 acc
  · unfold inv7
    isplitl [Hix]
    · iexact Hix
    isplitl [Hr]
    · iexact Hr
    iexists fo
    isplitr
    rotate_left
    · iexact Ho
    · ipureintro
      intro y hy
      omega
  iintro %_ HI
  unfold inv7
  icases HI with ⟨Hix, Hr, ⟨%f3, %hf3, Ho⟩⟩
  ihave HO2 := (cut_osG d L t2 k fO) $$ HO
  icases HO2 with ⟨HO, Hrest⟩
  sl_exec
  ihave HO3 := (join_osG d L t2 k fO (trip6.sl.dma0_1 f3)) $$ [HO Hrest]
  · isplitl [HO]
    · iexact HO
    · iexact Hrest
  have hk : k.val < 4 := k.isLt
  have hRv : ∀ y : S8x32x128.Idx, R y = st (ix8 (32 * bn L t2.val + 8 * k.val + (y 0).val) (y 1).val (y 2).val) := by
    intro y
    rw [hR]
    exact congrArg st (emb8 _ _ (off8_eq L t2 k) (k0_off8_inb L t2 k) y)
  sl_step
  isplitr
  · iexact Hmw
  isplitl [Hst]
  · iexact Hst
  isplitl [Hix]
  · iexact Hix
  isplitl [Hr]
  · iexists R
    iexact Hr
  isplitl [Ho]
  · iexists f3
    iexact Ho
  isplitl [HO3]
  · iexists _
    isplitr
    rotate_left
    · iexact HO3
    · ipureintro
      intro y hy0 hy1
      have h1 : (y 1).val < 32 := (y 1).isLt
      have h2 : (y 2).val < 128 := (y 2).isLt
      have e := (congrFun (land_put (F := F) (b := main_v15_0_scv) fO (k0_off8 L t2 k) S8x32x128.size (k0_off8_inb L t2 k) f3) y).trans (put8 fO _ _ (off8_eq L t2 k) f3 y)
      refine Eq.trans e ?_
      by_cases hc : 32 * bn L t2.val + 8 * k.val ≤ (y 0).val ∧ (y 0).val < 32 * bn L t2.val + 8 * k.val + 8
      · have e1 : 128 * ((y 1).val % 32) + (y 2).val % 128 = 128 * (y 1).val + (y 2).val := by omega
        have e0 : 32 * bn L t2.val + 8 * k.val + ((y 0).val - (32 * bn L t2.val + 8 * k.val)) % 8 = (y 0).val := by omega
        rw [if_pos hc, hf3 _ (by show 128 * ((y 1).val % 32) + (y 2).val % 128 < 16 * 256; omega), hG y (by omega) (by omega)]
        unfold gat
        rw [hRv]
        have hl := hix (ix1 (128 * (y 1).val + (y 2).val))
        have e2 : flat (ix3 ((y 0).val - (32 * bn L t2.val + 8 * k.val)) (y 1).val (y 2).val) = 128 * (y 1).val + (y 2).val := e1
        rw [e2]
        refine congrArg st (funext fun a => Fin.ext ?_)
        fin_cases a
        · show (32 * bn L t2.val + 8 * k.val + (((y 0).val - (32 * bn L t2.val + 8 * k.val)) % 8) % 8) % 8192 = (y 0).val % 8192; omega
        · show (BitVec.toNat (ix (ix1 (128 * (y 1).val + (y 2).val))) / 128 % 32) % 32 = BitVec.toNat (ix (ix1 (128 * (y 1).val + (y 2).val))) / 128 % 32; omega
        · show (BitVec.toNat (ix (ix1 (128 * (y 1).val + (y 2).val))) % 128 % 128) % 128 = BitVec.toNat (ix (ix1 (128 * (y 1).val + (y 2).val))) % 128 % 128; omega
      · rw [if_neg hc]
        exact hfO y hy0 (by omega)
  isplitl [Hs4]
  · iexact Hs4
  isplitl [Hs5]
  · iexact Hs5
  iexists _
  isplitr
  rotate_left
  · iexact Hw
  · ipureintro
    intro p hp
    rcases Finset.mem_insert.mp hp with rfl | hp
    · exact Or.inr rfl
    rcases Finset.mem_insert.mp hp with rfl | hp
    · exact Or.inr rfl
    exact hW p hp

end Cert.Proof.Resample
-- ==== Proof.Trip2.lean ====
/-
  One trip of the loop over a tile's batches: a batch whose mask is unset goes through as it is, of the others the states
  are gathered and the weights filled.
-/
module

public import proofs.«01_k».proof.Proof.Trip6

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## What the kernel leaves -/

/-- The number of a batch in the mask. -/
def m1 (n : ℕ) : S256.Idx := fun a => ⟨n % S256.size a, Nat.mod_lt _ (by fin_cases a; decide)⟩

/-- A batch's cumulative weights, and the indices the kernel makes of them. -/
def rowOf (cs : S256x32x128.Idx → F .f32) (b : ℕ) : Vec F S32x128 .f32 := fun x => cs (ixw b (x 0).val (x 1).val)
def idxB (cs : S256x32x128.Idx → F .f32) (b : ℕ) : Vec F S4096 .i32 := idxOf (rowOf cs b)

/-- The states the kernel leaves, and the weights. -/
def outS (st : S8192x32x128.Idx → F .f32) (cs : S256x32x128.Idx → F .f32) (mk : S256.Idx → BitVec 32) (y : S8192x32x128.Idx) : F .f32 :=
  if mk (m1 ((y 0).val / 32)) = 0#32 then st y else gatS st (idxB cs ((y 0).val / 32)) y
def outW (wt : S256x32x128.Idx → F .f32) (mk : S256.Idx → BitVec 32) (y : S256x32x128.Idx) : F .f32 :=
  if mk (m1 (y 0).val) = 0#32 then wt y else fillV

/-- The tile's part of the weights' result is right up to row `n`. -/
def owDone (d : Dev nD) (L : grid0.Coords) (G : S256x32x128.Idx → F .f32) (n : ℕ) : sProp 𝕄 :=
  iprop(∃ f : S256x32x128.Idx → F .f32, ⌜∀ y, 8 * wid L ≤ (y 0).val → (y 0).val < n → f y = G y⌝ ∗ (owW).view.loc (thr d L) ↦[owRows L]{fullShare} f)

/-- The scratch the batches share, and the counters. -/
def scratch (d : Dev nD) (L : grid0.Coords) : sProp 𝕄 :=
  iprop((∃ f, (cB).view.loc (thr d L) ↦{fullShare} f) ∗ (∃ f, (ixB).view.loc (thr d L) ↦{fullShare} f)
    ∗ (∃ f, (rB).view.loc (thr d L) ↦{fullShare} f) ∗ (∃ f, (oB).view.loc (thr d L) ↦{fullShare} f)
    ∗ semVal (thr d L, SemLoc.dma cc0_scoped1.sem) 0 ∗ semVal (thr d L, SemLoc.dma cc0_scoped2.sem) 0 ∗ semVal (thr d L, SemLoc.dma cc0_scoped3.sem) 0
    ∗ semVal (thr d L, SemLoc.dma cc0_scoped4.sem) 0 ∗ semVal (thr d L, SemLoc.dma cc0_scoped5.sem) 0 ∗ semVal (thr d L, SemLoc.dma cc0_scoped6.sem) 0)

def inv2 (d : Dev nD) (L : grid0.Coords) (q : PosShare TreeShare) (st : S8192x32x128.Idx → F .f32) (cs wt : S256x32x128.Idx → F .f32) (mk : S256.Idx → BitVec 32)
    (O : CellTallies nD τ sig (HIx 1)) (W : Waits sig (HIx 1)) (k : ℕ) (_ : BitVec 32) : sProp 𝕄 :=
  iprop(Transfers.MayWaits (thr d L) (none : HIx 1) O ∗ ((stW).view.loc (thr d L) ↦{q} st) ∗ ((csW).view.loc (thr d L) ↦{q} cs) ∗ ((wtW).view.loc (thr d L) ↦{q} wt)
    ∗ ((mkB).view.loc (thr d L) ↦{fullShare} mk) ∗ ((rwB).view.loc (thr d L) ↦{fullShare} (fun _ => fillV : S32x128.Idx → F .f32)) ∗ scratch d L
    ∗ osDone d L (outS st cs mk) (32 * bn L k) ∗ owDone d L (outW wt mk) (bn L k) ∗ owing d L O W)

theorem mask_word (mk : S256.Idx → BitVec 32) (hmk : ∀ i, (mk i).toNat < 2 ^ 31) (L : grid0.Coords) (t : ℕ) (ht : t < 8)
    (h : ∀ a x, ((![broadcast S16 (batch L t)] : Fin 1 → IVec S16 32) a x).toNat < S256.size a) :
    extractAt ![15] (k0_pay2 (F := F) (loadIdx (e := .i32) (F := F) mk ![broadcast S16 (batch L t)] h)) inpos_S16_p15 = mk (m1 (bn L t)) := by
  have hl : (loadIdx (e := .i32) (F := F) mk ![broadcast S16 (batch L t)] h : Vec F S16 .i32) = fun _ => mk (m1 (bn L t)) := by
    funext x
    show mk _ = mk _
    refine congrArg mk (funext fun a => Fin.ext ?_)
    fin_cases a
    show (batch L t).toNat = bn L t % 256
    have hw := wid_lt L
    rw [batch_toNat L t ht]; unfold bn; omega
  rw [hl]
  exact pay2_const _ (hmk _)

set_option maxHeartbeats 2000000 in
theorem trip2 (d : Dev nD) (L : grid0.Coords) (q : PosShare TreeShare) (st : S8192x32x128.Idx → F .f32) (cs wt : S256x32x128.Idx → F .f32) (mk : S256.Idx → BitVec 32)
    (hmk : ∀ i, (mk i).toNat < 2 ^ 31) (O : CellTallies nD τ sig (HIx 1)) (W : Waits sig (HIx 1)) (k : Fin k0_t2_loop.trips) (acc : BitVec 32) :
    inv2 (F := F) d L q st cs wt mk O W k.val acc ⊢ wp frame (wpE (defs₀ (F := F)) 𝒱₀ (thr d L) none) Set.univ
      (body2 L (Scalar.addi (Scalar.muli (BitVec.ofNat 32 (L 1).val) 2#32) (BitVec.ofNat 32 (L 0).val)) lanes k acc) fun r => inv2 d L q st cs wt mk O W (k.val + 1) r := by
  unfold body2 k0_t2_body inv2 scratch
  iintro ⟨#Hmw, Hst, Hcs, Hwt, Hmk, Hrw, ⟨⟨%fc, Hc⟩, ⟨%fi, Hi⟩, ⟨%fr, Hr⟩, ⟨%fo, Ho⟩, Hs1, Hs2, Hs3, Hs4, Hs5, Hs6⟩, HOS, HOW, HW⟩
  have hck : k0_chk1 (broadcast S16 (batch L k.val)) := by
    intro a x
    fin_cases a
    show (batch L k.val).toNat < 256
    have hw := wid_lt L
    have hk : k.val < 8 := k.isLt
    rw [batch_toNat L k.val k.isLt]; unfold bn; omega
  sl_exec
  iapply (gather_m (F := F) d L mk) $$ Hmk
  iintro Hmk
  unfold trip2.sl.v9 trip2.sl.v8
  have hv : extractAt ![15] (k0_pay2 (F := F) (loadIdx (e := .i32) (F := F) mk ![broadcast S16 (Scalar.addi (trip2.sl.v7 L) (trip2.sl.arg14 k))] (k0_idx1_inb _ hck))) inpos_S16_p15 = mk (m1 (bn L k.val)) :=
    mask_word (F := F) mk hmk L k.val k.isLt _
  generalize extractAt ![15] (k0_pay2 (F := F) (loadIdx (e := .i32) (F := F) mk ![broadcast S16 (Scalar.addi (trip2.sl.v7 L) (trip2.sl.arg14 k))] (k0_idx1_inb _ hck))) inpos_S16_p15 = w at hv ⊢
  by_cases h0 : w = 0#32
  · have hc1 : Scalar.cmpi .ne (Scalar.extui (Scalar.cmpi .eq w 0#32) : BitVec 32) 0#32 = 1#1 := by rw [h0]; rfl
    have hc2 : ¬ k0_cond2 w = 1#1 := by rw [h0]; decide
    unfold osDone owDone owing
    icases HOS with ⟨%fO, %hfO, HO⟩
    icases HOW with ⟨%fW, %hfW, HWt⟩
    icases HW with ⟨%W', %hW, Hw⟩
    ihave HO2 := (cut_osR d L k fO) $$ HO
    icases HO2 with ⟨HO, HOr⟩
    ihave HW2 := (cut_owR d L k fW) $$ HWt
    icases HW2 with ⟨HWt, HWr⟩
    sl_exec
    ihave HO3 := (join_osR d L k fO (trip2.sl.dma0 L st k)) $$ [HO HOr]
    · isplitl [HO]
      · iexact HO
      · iexact HOr
    ihave HW3 := (join_owR d L k fW (trip2.sl.dma0_1 L wt k)) $$ [HWt HWr]
    · isplitl [HWt]
      · iexact HWt
      · iexact HWr
    sl_step
    isplitr
    · iexact Hmw
    isplitl [Hst]
    · iexact Hst
    isplitl [Hcs]
    · iexact Hcs
    isplitl [Hwt]
    · iexact Hwt
    isplitl [Hmk]
    · iexact Hmk
    isplitl [Hrw]
    · iexact Hrw
    isplitl [Hc Hi Hr Ho Hs1 Hs2 Hs3 Hs4 Hs5 Hs6]
    · isplitl [Hc]
      · iexists fc
        iexact Hc
      isplitl [Hi]
      · iexists fi
        iexact Hi
      isplitl [Hr]
      · iexists fr
        iexact Hr
      isplitl [Ho]
      · iexists fo
        iexact Ho
      isplitl [Hs1]
      · iexact Hs1
      isplitl [Hs2]
      · iexact Hs2
      isplitl [Hs3]
      · iexact Hs3
      isplitl [Hs4]
      · iexact Hs4
      isplitl [Hs5]
      · iexact Hs5
      iexact Hs6
    isplitl [HO3]
    · iexists _
      isplitr
      rotate_left
      · iexact HO3
      · ipureintro
        intro y hy0 hy1
        refine Eq.trans ((congrFun (land_put (F := F) (b := main_v15_0_scv) fO (k0_off2 L k) S32x32x128.size (k0_off2_inb L k) (trip2.sl.dma0 L st k)) y).trans (put32 fO _ _ (off2_eq L k) _ y)) ?_
        have h1 : (y 1).val < 32 := (y 1).isLt
        have h2 : (y 2).val < 128 := (y 2).isLt
        have h3 : (y 0).val < 8192 := (y 0).isLt
        by_cases hc : 32 * bn L k.val ≤ (y 0).val ∧ (y 0).val < 32 * bn L k.val + 32
        · rw [if_pos hc]
          have hb : (y 0).val / 32 = bn L k.val := by omega
          refine (congrArg st (emb32 _ _ (off2_eq L k) (k0_off2_inb L k) _)).trans ?_
          unfold outS
          rw [hb, ← hv, if_pos h0]
          refine congrArg st (funext fun a => Fin.ext ?_)
          fin_cases a
          · show (32 * bn L k.val + ((y 0).val - 32 * bn L k.val) % 32) % 8192 = (y 0).val; omega
          · show ((y 1).val % 32) % 32 = (y 1).val; omega
          · show ((y 2).val % 128) % 128 = (y 2).val; omega
        · rw [if_neg hc]
          exact hfO y hy0 (by unfold bn at hy1 hc ⊢; omega)
    isplitl [HW3]
    · iexists _
      isplitr
      rotate_left
      · iexact HW3
      · ipureintro
        intro y hy0 hy1
        refine Eq.trans ((congrFun (land_squeeze (F := F) (b := main_v15_1_scv) fW (k0_off3 L k) S1x32x128.size (k0_off3_inb L k) _ (trip2.sl.dma0_1 L wt k)) y).trans (put1 fW _ _ (off3_eq L k) _ _ y)) ?_
        have h1 : (y 1).val < 32 := (y 1).isLt
        have h2 : (y 2).val < 128 := (y 2).isLt
        have h3 : (y 0).val < 256 := (y 0).isLt
        by_cases hc : (y 0).val = bn L k.val
        · rw [if_pos hc]
          refine (congrArg wt (emb1 _ _ (off3_eq L k) (k0_off3_inb L k) _ _)).trans ?_
          unfold outW
          rw [hc, ← hv, if_pos h0, ← hc]
          refine congrArg wt (funext fun a => Fin.ext ?_)
          fin_cases a
          · show (y 0).val % 256 = (y 0).val; omega
          · show ((y 1).val % 32) % 32 = (y 1).val; omega
          · show ((y 2).val % 128) % 128 = (y 2).val; omega
        · rw [if_neg hc]
          exact hfW y hy0 (by unfold bn at hy1 hc ⊢; omega)
    iexists _
    isplitr
    rotate_left
    · iexact Hw
    · ipureintro
      intro p hp
      rcases Finset.mem_insert.mp hp with rfl | hp
      · exact Or.inr rfl
      rcases Finset.mem_insert.mp hp with rfl | hp
      · exact Or.inr rfl
      exact hW p hp
  · have hc1 : ¬ Scalar.cmpi .ne (Scalar.extui (Scalar.cmpi .eq w 0#32) : BitVec 32) 0#32 = 1#1 := by
      have : Scalar.cmpi .eq w 0#32 = 0#1 := by
        show BitVec.ofBool (w == 0#32) = 0#1
        rw [beq_eq_false_iff_ne.mpr h0]; rfl
      rw [this]; decide
    have hc2 : k0_cond2 w = 1#1 := by
      have : Scalar.cmpi .ne w 0#32 = 1#1 := by
        show BitVec.ofBool (w != 0#32) = 1#1
        rw [bne_iff_ne.mpr h0]; rfl
      show Scalar.cmpi .ne (Scalar.extui (Scalar.cmpi .ne w 0#32) : BitVec 32) 0#32 = 1#1
      rw [this]; decide
    rw [k0_part6_eq_skeleton]
    unfold k0_part6_skel
    unfold osDone owDone owing
    icases HOS with ⟨%fO, %hfO, HO⟩
    icases HOW with ⟨%fW, %hfW, HWt⟩
    icases HW with ⟨%W', %hW, Hw⟩
    sl_exec
    have hrow : View.write (Elt F) (cB).view fc (trip2.sl.dma0_2 L cs k) Finset.univ = rowOf cs (bn L k.val) := by
      refine (View.write_whole_univ _ _ _).trans (funext fun y => ?_)
      exact congrArg cs (emb1 _ _ (off4_eq L k) (k0_off4_inb L k) _ y)
    rw [hrow]
    rw [bind_assoc]
    sl_for (inv3 (F := F) d L) $$ [Hi]
    case region =>
      intro k3 a3
      exact trip3 d L k _ w hc2 k3 a3
    · unfold inv3
      iexists fi
      isplitr
      rotate_left
      · iexact Hi
      · ipureintro
        intro i hi
        omega
    iintro %_ HI
    unfold inv3
    icases HI with ⟨%f3, %hf3, Hi⟩
    have h3 : f3 = scatN (rowOf cs (bn L k.val)) 0 := funext fun i => hf3 i (by have h : (i 0).val < 4096 := (i 0).isLt; show (i 0).val < 16 * 256; omega)
    rw [h3]
    unfold trip2.sl.prog.cont_1
    rw [bind_assoc]
    sl_for (inv4 (F := F) d L (rowOf cs (bn L k.val))) $$ [Hc Hi]
    case region =>
      intro k4 a4
      exact trip4 d L k _ w hc2 (rowOf cs (bn L k.val)) k4 a4
    · unfold inv4
      isplitl [Hc]
      · iexact Hc
      · iexact Hi
    iintro %_ HI
    unfold inv4
    rw [show Scf.trips k0_t4_loop.lb k0_t4_loop.ub k0_t4_loop.st = 256 by decide]
    icases HI with ⟨Hc, Hi⟩
    unfold trip2.sl.prog.cont_2
    rw [bind_assoc]
    sl_for (inv5 (F := F) d L (scatN (rowOf cs (bn L k.val)) 256)) $$ [Hi]
    case region =>
      intro k5 a5
      exact trip5 d L k _ w hc2 (scatN (rowOf cs (bn L k.val)) 256) k5 a5
    · unfold inv5
      isplitr
      · ipureintro; rfl
      · iexact Hi
    iintro %_ HI
    unfold inv5
    rw [show Scf.trips k0_t5_loop.lb k0_t5_loop.ub k0_t5_loop.st = 256 by decide]
    icases HI with ⟨%_, Hi⟩
    rw [show (cmN (scatN (rowOf cs (bn L k.val)) 256) 256).1 = idxB cs (bn L k.val) from rfl]
    have hG : ∀ y : S8192x32x128.Idx, 32 * bn L k.val ≤ (y 0).val → (y 0).val < 32 * bn L k.val + 32 → outS st cs mk y = gatS st (idxB cs (bn L k.val)) y := by
      intro y hy0 hy1
      have hb : (y 0).val / 32 = bn L k.val := by omega
      unfold outS
      rw [hb, ← hv, if_neg h0]
    unfold trip2.sl.prog.cont_3
    rw [bind_assoc]
    sl_for (inv6 (F := F) d L q st (idxB cs (bn L k.val)) (outS st cs mk) (bn L k.val) O W) $$ [Hst Hi Hr Ho HO Hs4 Hs5 Hw]
    case region =>
      intro k6 a6
      exact trip6 d L q st (idxB cs (bn L k.val)) (idxOf_lt _) (outS st cs mk) k _ w hc2 hG O W k6 a6
    · unfold inv6 osDone owing
      isplitr
      · iexact Hmw
      isplitl [Hst]
      · iexact Hst
      isplitl [Hi]
      · iexact Hi
      isplitl [Hr]
      · iexists fr
        iexact Hr
      isplitl [Ho]
      · iexists fo
        iexact Ho
      isplitl [HO]
      · iexists fO
        isplitr
        rotate_left
        · iexact HO
        · ipureintro
          intro y hy0 hy1
          exact hfO y hy0 hy1
      isplitl [Hs4]
      · iexact Hs4
      isplitl [Hs5]
      · iexact Hs5
      iexists _
      isplitr
      rotate_left
      · iexact Hw
      · ipureintro
        intro p hp
        rcases Finset.mem_insert.mp hp with rfl | hp
        · exact Or.inr rfl
        exact hW p hp
    iintro %_ HI
    unfold inv6 osDone owing
    icases HI with ⟨-, Hst, Hi, ⟨%fr', Hr⟩, ⟨%fo', Ho⟩, ⟨%fO', %hfO', HO⟩, Hs4, Hs5, ⟨%W2, %hW2, Hw⟩⟩
    ihave HW2 := (cut_owG d L k fW) $$ HWt
    icases HW2 with ⟨HWt, HWr⟩
    sl_exec
    ihave HW3 := (join_owG d L k fW (trip2.sl.dma0_3)) $$ [HWt HWr]
    · isplitl [HWt]
      · iexact HWt
      · iexact HWr
    sl_step
    isplitr
    · iexact Hmw
    isplitl [Hst]
    · iexact Hst
    isplitl [Hcs]
    · iexact Hcs
    isplitl [Hwt]
    · iexact Hwt
    isplitl [Hmk]
    · iexact Hmk
    isplitl [Hrw]
    · iexact Hrw
    isplitl [Hc Hi Hr Ho Hs1 Hs2 Hs3 Hs4 Hs5 Hs6]
    · isplitl [Hc]
      · iexists _
        iexact Hc
      isplitl [Hi]
      · iexists _
        iexact Hi
      isplitl [Hr]
      · iexists fr'
        iexact Hr
      isplitl [Ho]
      · iexists fo'
        iexact Ho
      isplitl [Hs1]
      · iexact Hs1
      isplitl [Hs2]
      · iexact Hs2
      isplitl [Hs3]
      · iexact Hs3
      isplitl [Hs4]
      · iexact Hs4
      isplitl [Hs5]
      · iexact Hs5
      iexact Hs6
    isplitl [HO]
    · iexists fO'
      isplitr
      rotate_left
      · iexact HO
      · ipureintro
        intro y hy0 hy1
        exact hfO' y hy0 (by
          have h6 : Scf.trips k0_t6_loop.lb k0_t6_loop.ub k0_t6_loop.st = 4 := by decide
          rw [h6]; unfold bn at hy1 ⊢; omega)
    isplitl [HW3]
    · iexists _
      isplitr
      rotate_left
      · iexact HW3
      · ipureintro
        intro y hy0 hy1
        refine Eq.trans ((congrFun (land_squeeze (F := F) (b := main_v15_1_scv) fW (k0_off4 L k) S1x32x128.size (k0_off4_inb L k) _ (trip2.sl.dma0_3)) y).trans (put1 fW _ _ (off4_eq L k) _ _ y)) ?_
        by_cases hc : (y 0).val = bn L k.val
        · rw [if_pos hc]
          unfold outW
          rw [hc, ← hv, if_neg h0]
          rfl
        · rw [if_neg hc]
          exact hfW y hy0 (by unfold bn at hy1 hc ⊢; omega)
    iexists _
    isplitr
    rotate_left
    · iexact Hw
    · ipureintro
      intro p hp
      rcases Finset.mem_insert.mp hp with rfl | hp
      · exact Or.inr rfl
      exact hW2 p hp

end Cert.Proof.Resample
-- ==== Proof.Tile.lean ====
/-
  A tile's task: the mask in, the row of equal weights filled, the tile's eight batches; it leaves its share of the two
  results at what the batches' masks and indices say.
-/
module

public import proofs.«01_k».proof.Proof.Trip2

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## A subcore's counters and scratch -/

theorem ownSems0_thr (d : Dev nD) (L : grid0.Coords) : (ownSems0 (thr d L) : sProp 𝕄)
    = iprop(semVal (thr d L, SemLoc.dma cc0_scoped0.sem) 0 ∗ semVal (thr d L, SemLoc.dma cc0_scoped1.sem) 0 ∗ semVal (thr d L, SemLoc.dma cc0_scoped2.sem) 0 ∗ semVal (thr d L, SemLoc.dma cc0_scoped3.sem) 0 ∗ semVal (thr d L, SemLoc.dma cc0_scoped4.sem) 0 ∗ semVal (thr d L, SemLoc.dma cc0_scoped5.sem) 0 ∗ semVal (thr d L, SemLoc.dma cc0_scoped6.sem) 0
        ∗ bigSep (((((((((ownCells (thr d L)).erase (thr d L, SemLoc.dma cc0_scoped0.sem)).erase (thr d L, SemLoc.dma cc0_scoped1.sem)).erase (thr d L, SemLoc.dma cc0_scoped2.sem)).erase (thr d L, SemLoc.dma cc0_scoped3.sem)).erase (thr d L, SemLoc.dma cc0_scoped4.sem)).erase (thr d L, SemLoc.dma cc0_scoped5.sem)).erase (thr d L, SemLoc.dma cc0_scoped6.sem))) fun g => semVal g 0) := by
  unfold SparseCore.Cfg.ownSems0
  rw [SparseCore.bigSep_erase' ((mem_ownCells (g := ((thr d L, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (Prod.mk.inj e).2 (by decide), ((mem_ownCells (g := ((thr d L, SemLoc.dma cc0_scoped1.sem) : GSem nD τ sig))).mpr ⟨rfl, by show (SemLoc.dma cc0_scoped1.sem : SemLoc sig).isScoped .scVector = true; decide⟩)⟩),
    SparseCore.bigSep_erase' (Finset.mem_erase.mpr ⟨fun e => absurd (Prod.mk.inj e).2 (by decide), (Finset.mem_erase.mpr ⟨fun e => absurd (Prod.mk.inj e).2 (by decide), ((mem_ownCells (g := ((thr d L, SemLoc.dma cc0_scoped2.sem) : GSem nD τ sig))).mpr ⟨rfl, by show (SemLoc.dma cc0_scoped2.sem : SemLoc sig).isScoped .scVector = true; decide⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := ((thr d L, SemLoc.dma cc0_scoped3.sem) : GSem nD τ sig))).mpr ⟨rfl, by show (SemLoc.dma cc0_scoped3.sem : SemLoc sig).isScoped .scVector = true; decide⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := ((thr d L, SemLoc.dma cc0_scoped4.sem) : GSem nD τ sig))).mpr ⟨rfl, by show (SemLoc.dma cc0_scoped4.sem : SemLoc sig).isScoped .scVector = true; decide⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := ((thr d L, SemLoc.dma cc0_scoped5.sem) : GSem nD τ sig))).mpr ⟨rfl, by show (SemLoc.dma cc0_scoped5.sem : SemLoc sig).isScoped .scVector = true; decide⟩)⟩)⟩)⟩)⟩)⟩),
    SparseCore.bigSep_erase' (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), (Finset.mem_erase.mpr ⟨fun e => absurd (Prod.mk.inj e).2 (by decide), ((mem_ownCells (g := ((thr d L, SemLoc.dma cc0_scoped6.sem) : GSem nD τ sig))).mpr ⟨rfl, by show (SemLoc.dma cc0_scoped6.sem : SemLoc sig).isScoped .scVector = true; decide⟩)⟩)⟩)⟩)⟩)⟩)⟩)]

theorem ownBufs_thr (d : Dev nD) (L : grid0.Coords) : (ownBufs (thr d L) : sProp 𝕄)
    = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
        ∗ bigSep ((((((((ownRefs (τ := τ) (Proc.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))) fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := (Proc.scVector (cV L) (jV L))) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := (Proc.scVector (cV L) (jV L))) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := (Proc.scVector (cV L) (jV L))) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := (Proc.scVector (cV L) (jV L))) (b := ((Proc.scVector (cV L) (jV L)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := (Proc.scVector (cV L) (jV L))) (b := ((Proc.scVector (cV L) (jV L)).devRef cc0_scratch5)) rfl)⟩)⟩)⟩)⟩)⟩)]

/-- The same, spelt as the kernel addresses the scratch. -/
theorem ownBufs_refs (d : Dev nD) (L : grid0.Coords) : (ownBufs (thr d L) : sProp 𝕄)
    = iprop((∃ f, (cB).view.loc (thr d L) ↦{fullShare} f) ∗ (∃ f, (ixB).view.loc (thr d L) ↦{fullShare} f) ∗ (∃ f, (rwB).view.loc (thr d L) ↦{fullShare} f) ∗ (∃ f, (mkB).view.loc (thr d L) ↦{fullShare} f) ∗ (∃ f, (rB).view.loc (thr d L) ↦{fullShare} f) ∗ (∃ f, (oB).view.loc (thr d L) ↦{fullShare} f)
        ∗ bigSep ((((((((ownRefs (τ := τ) (Proc.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))) fun b => iprop(∃ f, ((d, b) : Loc nD τ sig) ↦{fullShare} f)) := ownBufs_thr d L

/-! ## The task -/

/-- What a tile is handed: a share of the four arrays it reads, and its rows of the two results. -/
def goP (st : S8192x32x128.Idx → F .f32) (cs wt : S256x32x128.Idx → F .f32) (mk : S256.Idx → BitVec 32) (d : Dev nD) (L : grid0.Coords) (q : PosShare TreeShare)
    (f : S8192x32x128.Idx → F .f32) (g : S256x32x128.Idx → F .f32) : sProp 𝕄 :=
  iprop(((stW).view.loc (thr d L) ↦{q} st) ∗ ((csW).view.loc (thr d L) ↦{q} cs) ∗ ((wtW).view.loc (thr d L) ↦{q} wt) ∗ ((mkW).view.loc (thr d L) ↦{q} mk)
    ∗ ((osW).view.loc (thr d L) ↦[osRows L]{fullShare} f) ∗ (owW).view.loc (thr d L) ↦[owRows L]{fullShare} g)

/-- What it hands back: those rows, written. -/
def tdP (st : S8192x32x128.Idx → F .f32) (cs wt : S256x32x128.Idx → F .f32) (mk : S256.Idx → BitVec 32) (d : Dev nD) (L : grid0.Coords) : sProp 𝕄 :=
  iprop(((osW).view.loc (thr d L) ↦[osRows L]{fullShare} outS st cs mk) ∗ (owW).view.loc (thr d L) ↦[owRows L]{fullShare} outW wt mk)

set_option maxHeartbeats 1000000 in
theorem tile_body (st : S8192x32x128.Idx → F .f32) (cs wt : S256x32x128.Idx → F .f32) (mk : S256.Idx → BitVec 32) (hmk : ∀ i, (mk i).toNat < 2 ^ 31)
    (d : Dev nD) (L : grid0.Coords) (q : PosShare TreeShare) (f : S8192x32x128.Idx → F .f32) (g : S256x32x128.Idx → F .f32)
    (O : CellTallies nD τ sig (HIx 1)) (W : Waits sig (HIx 1)) (hO : ∀ g, O g none = 0) :
    iprop(levAts (K (F := F)).L (K (F := F)).lev ∗ emp ∗ goP st cs wt mk d L q f g
        ∗ scopedBufs (thr d L) ∗ scopedSems0 (thr d L) ∗ owes (thr d L) O W)
      ⊢ wp frame (wpE (defs₀ (F := F)) 𝒱₀ (thr d L) none) Set.univ (whole L)
          fun _ => iprop(tdP st cs wt mk d L ∗ scopedBufs (thr d L) ∗ scopedSems0 (thr d L) ∗ ∃ W', ⌜∀ p ∈ W', p ∈ W ∨ p.2 = none⌝ ∗ owes (thr d L) O W') := by
  unfold whole
  rw [cc0__sc_resample_eq_skeleton]
  unfold cc0__sc_resample_skel
  rw [(K (F := F)).scopedBufs_V launchFacts d (cV L) (jV L), SparseCore.Cfg.scopedSems0_V (Val := Elt F) d (cV L) (jV L), ownSems0_thr, ownBufs_refs]
  unfold goP tdP
  iintro ⟨#Hlv, -, ⟨Hst, Hcs, Hwt, Hmw, HO, HWt⟩, ⟨⟨%b0, Hc⟩, ⟨%b1, Hi⟩, ⟨%b2, Hrw⟩, ⟨%b3, Hmk⟩, ⟨%b4, Hr⟩, ⟨%b5, Ho⟩, Hbufs⟩, ⟨Hs0, Hs1, Hs2, Hs3, Hs4, Hs5, Hs6, Hsems⟩, Hw⟩
  ihave #Hmay := ((K (F := F)).mayWaits_none (thr := thr d L) hO) $$ Hlv
  sl_exec
  have hmask : View.write (Elt F) (mkB).view b3 (tile_body.sl.dma0 mk) Finset.univ = mk := View.write_whole_univ _ _ _
  rw [hmask]
  sl_for (inv1 (F := F) d L) $$ [Hrw]
  case region =>
    intro k1 a1
    exact trip1 d L k1 a1
  · unfold inv1
    iexists b2
    isplitr
    rotate_left
    · iexact Hrw
    · ipureintro
      intro y hy
      omega
  iintro %_ HI
  unfold inv1
  icases HI with ⟨%f1, %hf1, Hrw⟩
  have h1 : f1 = (fun _ => fillV : S32x128.Idx → F .f32) := funext fun y => hf1 y (by
    have h0 : (y 0).val < 32 := (y 0).isLt
    have h1 : (y 1).val < 128 := (y 1).isLt
    show 128 * (y 0).val + (y 1).val < 16 * 256; omega)
  rw [h1]
  sl_for (inv2 (F := F) d L q st cs wt mk O W) $$ [Hst Hcs Hwt Hmk Hrw Hc Hi Hr Ho Hs1 Hs2 Hs3 Hs4 Hs5 Hs6 HO HWt Hw]
  case region =>
    intro k2 a2
    exact trip2 d L q st cs wt mk hmk O W k2 a2
  · unfold inv2 scratch osDone owDone owing
    isplitr
    · iexact Hmay
    isplitl [Hst]
    · iexact Hst
    isplitl [Hcs]
    · iexact Hcs
    isplitl [Hwt]
    · iexact Hwt
    isplitl [Hmk]
    · iexact Hmk
    isplitl [Hrw]
    · iexact Hrw
    isplitl [Hc Hi Hr Ho Hs1 Hs2 Hs3 Hs4 Hs5 Hs6]
    · isplitl [Hc]
      · iexists b0
        iexact Hc
      isplitl [Hi]
      · iexists b1
        iexact Hi
      isplitl [Hr]
      · iexists b4
        iexact Hr
      isplitl [Ho]
      · iexists b5
        iexact Ho
      isplitl [Hs1]
      · iexact Hs1
      isplitl [Hs2]
      · iexact Hs2
      isplitl [Hs3]
      · iexact Hs3
      isplitl [Hs4]
      · iexact Hs4
      isplitl [Hs5]
      · iexact Hs5
      iexact Hs6
    isplitl [HO]
    · iexists f
      isplitr
      rotate_left
      · iexact HO
      · ipureintro
        intro y hy0 hy1
        unfold bn at hy1; omega
    isplitl [HWt]
    · iexists g
      isplitr
      rotate_left
      · iexact HWt
      · ipureintro
        intro y hy0 hy1
        unfold bn at hy1; omega
    iexists _
    isplitr
    rotate_left
    · iexact Hw
    · ipureintro
      intro p hp
      rcases Finset.mem_insert.mp hp with rfl | hp
      · exact Or.inr rfl
      exact Or.inl hp
  iintro %_ HI
  unfold inv2 scratch osDone owDone owing
  rw [show Scf.trips k0_t2_loop.lb k0_t2_loop.ub k0_t2_loop.st = 8 by decide]
  icases HI with ⟨-, Hst, Hcs, Hwt, Hmk, Hrw, ⟨⟨%c0, Hc⟩, ⟨%c1, Hi⟩, ⟨%c4, Hr⟩, ⟨%c5, Ho⟩, Hs1, Hs2, Hs3, Hs4, Hs5, Hs6⟩, ⟨%fO, %hfO, HO⟩, ⟨%fW, %hfW, HWt⟩, ⟨%W', %hW, Hw⟩⟩
  have eO : ((osW).view.loc (thr d L) ↦[osRows L]{fullShare} fO : sProp 𝕄) = (osW).view.loc (thr d L) ↦[osRows L]{fullShare} outS st cs mk :=
    pointsTo_congr fun y hy => hfO y (by have := (mem_osRows L y).mp hy; omega) (by have := (mem_osRows L y).mp hy; unfold bn; omega)
  have eW : ((owW).view.loc (thr d L) ↦[owRows L]{fullShare} fW : sProp 𝕄) = (owW).view.loc (thr d L) ↦[owRows L]{fullShare} outW wt mk :=
    pointsTo_congr fun y hy => hfW y (by have := (mem_owRows L y).mp hy; omega) (by have := (mem_owRows L y).mp hy; unfold bn; omega)
  ihave HO2 := (Entails.of_eq eO) $$ HO
  ihave HW2 := (Entails.of_eq eW) $$ HWt
  sl_exec
  sl_step
  isplitl [HO2 HW2]
  · isplitl [HO2]
    · iexact HO2
    · iexact HW2
  isplitl [Hc Hi Hrw Hmk Hr Ho Hbufs]
  · isplitl [Hc]
    · iexists c0
      iexact Hc
    isplitl [Hi]
    · iexists c1
      iexact Hi
    isplitl [Hrw]
    · iexists _
      iexact Hrw
    isplitl [Hmk]
    · iexists mk
      iexact Hmk
    isplitl [Hr]
    · iexists c4
      iexact Hr
    isplitl [Ho]
    · iexists c5
      iexact Ho
    iexact Hbufs
  isplitl [Hs0 Hs1 Hs2 Hs3 Hs4 Hs5 Hs6 Hsems]
  · isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    isplitl [Hs6]
    · iexact Hs6
    iexact Hsems
  iexists W'
  isplitr
  rotate_left
  · iexact Hw
  · ipureintro
    exact hW

end Cert.Proof.Resample
-- ==== Proof.Launch.lean ====
/-
  The launch of the call: what @main hands each tile and takes back, each tile's run from it, and how the whole arrays
  are dealt among the thirty-two tiles and joined again.
-/
module

public import proofs.«01_k».proof.Proof.Tile

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

/-! ## The arrays the call reads, and its results' buffers before it -/

/-- The call's operands on each device, and what its results' buffers hold before it. -/
structure Arrays (F : FTy → Type) where
  st : Dev nD → S8192x32x128.Idx → F .f32
  cs : Dev nD → S256x32x128.Idx → F .f32
  wt : Dev nD → S256x32x128.Idx → F .f32
  mw : Dev nD → S256.Idx → BitVec 32
  os : Dev nD → S8192x32x128.Idx → F .f32
  ow : Dev nD → S256x32x128.Idx → F .f32

variable (A : Arrays F)

/-- The grid point of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The read share of a tile: the whole, dealt to the two SparseCores and then to the sixteen subcores. -/
def shareC (c : Fin 2) : PosShare TreeShare := Transfers.dealOf fullShare Finset.univ c
def shareT (c : Fin 2) (i : Fin 16) : PosShare TreeShare := Transfers.dealOf (shareC c) Finset.univ i

def goA (d : Dev nD) (c : Fin 2) (i : Fin 16) : sProp 𝕄 :=
  goP (A.st d) (A.cs d) (A.wt d) (A.mw d) d (coordsV c i) (shareT c i) (A.os d) (A.ow d)
def tdA (d : Dev nD) (c : Fin 2) (i : Fin 16) : sProp 𝕄 := tdP (A.st d) (A.cs d) (A.wt d) (A.mw d) d (coordsV c i)

instance goA_storable (d : Dev nD) (c : Fin 2) (i : Fin 16) : BI.Storable (upEmb : UEmb _ 𝕄) (goA A d c i) := by
  unfold goA goP; infer_instance
instance tdA_storable (d : Dev nD) (c : Fin 2) (i : Fin 16) : BI.Storable (upEmb : UEmb _ 𝕄) (tdA A d c i) := by
  unfold tdA tdP; infer_instance

/-- The call's payloads: a SparseCore is handed what its sixteen tiles take and hands back what they leave. -/
def P : (K (F := F)).Pay (nD := nD) (Val := Elt F) (Name := ℕ) (U := UU) where
  st := fun q d c => match q with | 0 => bigSep Finset.univ fun i : Fin 16 => goA A d c i
  dn := fun q d c => match q with | 0 => bigSep Finset.univ fun i : Fin 16 => tdA A d c i
  go := fun q d c i => match q with | 0 => goA A d c i
  td := fun q d c i => match q with | 0 => tdA A d c i
  x := fun _ _ => iprop(emp)

instance P_storable : (P (F := F) A).IsStorable where
  st q d c := match q with | 0 => (inferInstance : BI.Storable (upEmb : UEmb _ 𝕄) (bigSep Finset.univ fun i : Fin 16 => goA A d c i))
  dn q d c := match q with | 0 => (inferInstance : BI.Storable (upEmb : UEmb _ 𝕄) (bigSep Finset.univ fun i : Fin 16 => tdA A d c i))
  go q d c i := match q with | 0 => goA_storable A d c i
  td q d c i := match q with | 0 => tdA_storable A d c i

/-! ## A tile's obligation, and the split of a SparseCore's payload -/

theorem defs₀_vector (c : Fin τ.nSC) (s : Fin τ.nSub) :
    defs₀ (F := F) (.scVector c s) 0 () = SparseCore.onTile hcore0 hsub0 (fun c s => whole (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hmk : ∀ d i, (A.mw d i).toNat < 2 ^ 31) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (A.st d) (A.cs d) (A.wt d) (A.mw d) (hmk d) d (coordsV ⟨_, hc.1⟩ ⟨_, hc.2⟩) (shareT c i) (A.os d) (A.ow d) O W hO).trans
    (wp_mono frame _ _ fun _ => obl_post)

theorem vecSplit : (K (F := F)).VecSplit' (P A) 0 := by
  intro d c
  show (bigSep Finset.univ fun i : Fin 16 => goA A d c i) ⊢ |={Set.univ}=> iprop(
      (bigSep Finset.univ fun i : Fin 16 => goA A d c i)
      ∗ ((bigSep Finset.univ fun i : Fin 16 => tdA A d c i) -∗ (bigSep Finset.univ fun i : Fin 16 => tdA A d c i)))
  iintro H; imodintro
  isplitl [H]; · iexact H
  iintro H; iexact H

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  have he {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [he]; iempintro
  unfold P; dsimp only
  rw [show (bigSep Finset.univ fun _ : Thread nD τ => bigSep Finset.univ fun _ : Fin 1 => (iprop(emp) : sProp 𝕄)) = iprop(emp) from by
    rw [bigSep_congr fun _ _ => he _, he]]
  iempintro

/-! ## The arrays dealt and joined -/

omit [FloatOps F] in
theorem deal_share (ℓ : Loc nD τ sig) (f : Buf (Elt F) ℓ) :
    (ℓ ↦{fullShare} f : sProp 𝕄) = bigSep Finset.univ fun c : Fin 2 => bigSep Finset.univ fun i : Fin 16 => ℓ ↦{shareT c i} f := by
  rw [Transfers.pointsTo_deal (Finset.univ : Finset (Fin 2)) ⟨0, Finset.mem_univ _⟩ fullShare]
  refine bigSep_congr fun c _ => ?_
  exact Transfers.pointsTo_deal (Finset.univ : Finset (Fin 16)) ⟨0, Finset.mem_univ _⟩ (shareC c)

theorem wid_coords (c : Fin 2) (i : Fin 16) : wid (coordsV c i) = 2 * i.val + c.val := rfl

omit [FloatOps F] in
/-- An array in HBM, whole, dealt to the tiles by rows. -/
theorem deal_rows (ℓ : Loc nD τ sig) (f : Buf (Elt F) ℓ) (R : grid0.Coords → Finset (Idx ℓ))
    (hd : ∀ p p' : Fin 2 × Fin 16, p ≠ p' → Disjoint (R (coordsV p.1 p.2)) (R (coordsV p'.1 p'.2)))
    (hc : ∀ y, ∃ p : Fin 2 × Fin 16, y ∈ R (coordsV p.1 p.2)) :
    (ℓ ↦{fullShare} f : sProp 𝕄)
      = bigSep Finset.univ fun c : Fin 2 => bigSep Finset.univ fun i : Fin 16 => ℓ ↦[R (coordsV c i)]{fullShare} f := by
  classical
  have h := pointsTo_biUnion (ℓ := ℓ) (q := fullShare) (f := f) (Ix := HIx 1) (Name := ℕ) (U := UU) (Lvl := ℕ)
    (Finset.univ : Finset (Fin 2 × Fin 16)) (fun p => R (coordsV p.1 p.2)) (fun p _ p' _ h => hd p p' h)
  rw [bigSep_univ_prod, show (Finset.univ : Finset (Fin 2 × Fin 16)).biUnion (fun p => R (coordsV p.1 p.2)) = Finset.univ from
    Finset.eq_univ_iff_forall.mpr fun y => by
      obtain ⟨p, hp⟩ := hc y
      exact Finset.mem_biUnion.mpr ⟨p, Finset.mem_univ _, hp⟩] at h
  exact h

theorem wid_inj (p p' : Fin 2 × Fin 16) (h : wid (coordsV p.1 p.2) = wid (coordsV p'.1 p'.2)) : p = p' := by
  obtain ⟨c, i⟩ := p; obtain ⟨c', i'⟩ := p'
  rw [wid_coords, wid_coords] at h
  have hc := c.isLt; have hc' := c'.isLt
  rw [Prod.mk.injEq, Fin.ext_iff, Fin.ext_iff]
  dsimp only at h
  omega
theorem wid_surj (w : ℕ) (hw : w < 32) : ∃ p : Fin 2 × Fin 16, wid (coordsV p.1 p.2) = w :=
  ⟨(⟨w % 2, by omega⟩, ⟨w / 2, by omega⟩), by rw [wid_coords]; dsimp only; omega⟩

theorem os_disj (p p' : Fin 2 × Fin 16) (h : p ≠ p') : Disjoint (osRows (coordsV p.1 p.2)) (osRows (coordsV p'.1 p'.2)) :=
  Finset.disjoint_left.mpr fun y hy hy' => h (wid_inj p p' (((mem_osRows _ y).mp hy).symm.trans ((mem_osRows _ y).mp hy')))
theorem ow_disj (p p' : Fin 2 × Fin 16) (h : p ≠ p') : Disjoint (owRows (coordsV p.1 p.2)) (owRows (coordsV p'.1 p'.2)) :=
  Finset.disjoint_left.mpr fun y hy hy' => h (wid_inj p p' (((mem_owRows _ y).mp hy).symm.trans ((mem_owRows _ y).mp hy')))
theorem os_cover (y : S8192x32x128.Idx) : ∃ p : Fin 2 × Fin 16, y ∈ osRows (coordsV p.1 p.2) := by
  have h : (y 0).val < 8192 := (y 0).isLt
  obtain ⟨p, hp⟩ := wid_surj ((y 0).val / 256) (by omega)
  exact ⟨p, (mem_osRows _ y).mpr hp.symm⟩
theorem ow_cover (y : S256x32x128.Idx) : ∃ p : Fin 2 × Fin 16, y ∈ owRows (coordsV p.1 p.2) := by
  have h : (y 0).val < 256 := (y 0).isLt
  obtain ⟨p, hp⟩ := wid_surj ((y 0).val / 8) (by omega)
  exact ⟨p, (mem_owRows _ y).mpr hp.symm⟩

omit [FloatOps F] in
theorem sep_two (A B : Fin 2 → Fin 16 → sProp 𝕄) :
    (bigSep Finset.univ fun c => bigSep Finset.univ fun i => iprop(A c i ∗ B c i))
      = iprop((bigSep Finset.univ fun c => bigSep Finset.univ fun i => A c i) ∗ bigSep Finset.univ fun c => bigSep Finset.univ fun i => B c i) := by
  rw [bigSep_congr fun c _ => bigSep_sep' Finset.univ (A c) (B c), bigSep_sep']

/-- The whole arrays before the call are what the tiles take. -/
theorem st0_eq (d : Dev nD) :
    (bigSep Finset.univ fun c : Fin ((K (F := F)).nCore 0) => (P A).st 0 d c)
      = iprop(((SparseCore.T d).loc main_v12 ↦{fullShare} A.st d) ∗ ((SparseCore.T d).loc main_v13 ↦{fullShare} A.cs d)
        ∗ ((SparseCore.T d).loc main_v14 ↦{fullShare} A.wt d) ∗ ((SparseCore.T d).loc main_v6 ↦{fullShare} A.mw d)
        ∗ ((SparseCore.T d).loc main_v15_0 ↦{fullShare} A.os d) ∗ (SparseCore.T d).loc main_v15_1 ↦{fullShare} A.ow d) := by
  show (bigSep Finset.univ fun c : Fin 2 => bigSep Finset.univ fun i : Fin 16 => goA A d c i) = _
  rw [deal_share ((SparseCore.T d).loc main_v12) (A.st d), deal_share ((SparseCore.T d).loc main_v13) (A.cs d),
    deal_share ((SparseCore.T d).loc main_v14) (A.wt d), deal_share ((SparseCore.T d).loc main_v6) (A.mw d),
    deal_rows ((SparseCore.T d).loc main_v15_0) (A.os d) osRows os_disj os_cover,
    deal_rows ((SparseCore.T d).loc main_v15_1) (A.ow d) owRows ow_disj ow_cover]
  rw [← sep_two, ← sep_two, ← sep_two, ← sep_two, ← sep_two]
  rfl

/-- What the tiles leave is the whole results, written. -/
theorem dn0_eq (d : Dev nD) :
    (bigSep Finset.univ fun c : Fin ((K (F := F)).nCore 0) => (P A).dn 0 d c)
      = iprop(((SparseCore.T d).loc main_v15_0 ↦{fullShare} outS (A.st d) (A.cs d) (A.mw d))
        ∗ (SparseCore.T d).loc main_v15_1 ↦{fullShare} outW (A.wt d) (A.mw d)) := by
  show (bigSep Finset.univ fun c : Fin 2 => bigSep Finset.univ fun i : Fin 16 => tdA A d c i) = _
  rw [deal_rows ((SparseCore.T d).loc main_v15_0) (outS (A.st d) (A.cs d) (A.mw d)) osRows os_disj os_cover,
    deal_rows ((SparseCore.T d).loc main_v15_1) (outW (A.wt d) (A.mw d)) owRows ow_disj ow_cover]
  rw [← sep_two]
  rfl

end Cert.Proof.Resample
-- ==== Proof.Main.lean ====
/-
  @main on the TensorCore: the operations before the call, the call, the operations after it; and the run of the whole
  program, with what every array the TensorCore still holds ends at.
-/
module

public import proofs.«01_k».proof.Proof.Launch

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

open Idealize.ShloMosaic.StableHlo (after seq launchContents)

/-! ## The operations before and after the call -/

/-- @main's operations up to the call. -/
abbrev opsA : List (HloOp τ sig (Elt F)) := [
  (StableHlo.binary main_arg1 main_arg1 main_v0 (mulf : (⟨S256x4096, .f32⟩ : BufTy).Contents (Elt F) → (⟨S256x4096, .f32⟩ : BufTy).Contents (Elt F) → (⟨S256x4096, .f32⟩ : BufTy).Contents (Elt F))),
  (StableHlo.nullary main_cst (constant S_ .f32 0x00000000#32)),
  (StableHlo.binary main_v0 main_cst main_v1 ((fun x v => Host.reduceAdd x v reducesTo_S256x4096_S256_d1 h_S_) : (⟨S256x4096, .f32⟩ : BufTy).Contents (Elt F) → (⟨S_, .f32⟩ : BufTy).Contents (Elt F) → (⟨S256, .f32⟩ : BufTy).Contents (Elt F))),
  (StableHlo.nullary main_cst_0 (constant S_ .f32 0x3F800000#32)),
  (StableHlo.unary main_cst_0 main_v2 (broadcastInDim S256 ![] bcast_S_S256 : (⟨S_, .f32⟩ : BufTy).Contents (Elt F) → (⟨S256, .f32⟩ : BufTy).Contents (Elt F))),
  (StableHlo.binary main_v2 main_v1 main_v3 (Host.divf : (⟨S256, .f32⟩ : BufTy).Contents (Elt F) → (⟨S256, .f32⟩ : BufTy).Contents (Elt F) → (⟨S256, .f32⟩ : BufTy).Contents (Elt F))),
  (StableHlo.nullary main_cst_1 (constant S_ .f32 0x45000000#32)),
  (StableHlo.unary main_cst_1 main_v4 (broadcastInDim S256 ![] bcast_S_S256 : (⟨S_, .f32⟩ : BufTy).Contents (Elt F) → (⟨S256, .f32⟩ : BufTy).Contents (Elt F))),
  (StableHlo.binary main_v3 main_v4 main_v5 (cmpf .olt : (⟨S256, .f32⟩ : BufTy).Contents (Elt F) → (⟨S256, .f32⟩ : BufTy).Contents (Elt F) → (⟨S256, .i1⟩ : BufTy).Contents (Elt F))),
  (StableHlo.unary main_v5 main_v6 ((extui 32 · natLt_1_32) : (⟨S256, .i1⟩ : BufTy).Contents (Elt F) → (⟨S256, .i32⟩ : BufTy).Contents (Elt F))),
  (StableHlo.TRef.nullary main_call0_call0.cst (constant S_ .f32 0x00000000#32)),
  (StableHlo.TRef.unary main_call0_call0.cst main_call0_call0.v0 (broadcastInDim S_ ![] bcast_S_S_)),
  (StableHlo.TRef.binary (.of main_arg1) main_call0_call0.v0 main_call0_call0.v1 (fun x v => Host.reduceWindowAdd ![1, 4096] ![1, 1] ![0, 4095] ![0, 0] x v reduceWindows_S256x4096_S256x4096_w1s1p0_0_w4096s1p4095_0 h_S_)),
  (StableHlo.unary main_v7 main_v8 ((extractStridedSlice S256x1 ![0, 4095] · slices_S256x4096_S256x1_0_4095) : (⟨S256x4096, .f32⟩ : BufTy).Contents (Elt F) → (⟨S256x1, .f32⟩ : BufTy).Contents (Elt F))),
  (StableHlo.unary main_v8 main_v9 (broadcastInDim S256x4096 ![0, 1] bcast_S256x1_S256x4096_0_1 : (⟨S256x1, .f32⟩ : BufTy).Contents (Elt F) → (⟨S256x4096, .f32⟩ : BufTy).Contents (Elt F))),
  (StableHlo.binary main_v7 main_v9 main_v10 (Host.divf : (⟨S256x4096, .f32⟩ : BufTy).Contents (Elt F) → (⟨S256x4096, .f32⟩ : BufTy).Contents (Elt F) → (⟨S256x4096, .f32⟩ : BufTy).Contents (Elt F))),
  (StableHlo.unary main_arg0 main_v11 ((transpose S256x32x4096 [0, 2, 1] · transposes_S256x4096x32_S256x32x4096_0_2_1) : (⟨S256x4096x32, .f32⟩ : BufTy).Contents (Elt F) → (⟨S256x32x4096, .f32⟩ : BufTy).Contents (Elt F))),
  (StableHlo.reshape main_v11 main_v12 (rfl : (.f32 : EltTy) = .f32) shapeCasts_S256x32x4096_S8192x32x128),
  (StableHlo.reshape main_v10 main_v13 (rfl : (.f32 : EltTy) = .f32) shapeCasts_S256x4096_S256x32x128),
  (StableHlo.reshape main_arg1 main_v14 (rfl : (.f32 : EltTy) = .f32) shapeCasts_S256x4096_S256x32x128)]

/-- @main's operations after it. -/
abbrev opsB : List (HloOp τ sig (Elt F)) := [
  (StableHlo.reshape main_v15_0 main_v16 (rfl : (.f32 : EltTy) = .f32) shapeCasts_S8192x32x128_S256x32x4096),
  (StableHlo.unary main_v16 main_v17 ((transpose S256x4096x32 [0, 2, 1] · transposes_S256x32x4096_S256x4096x32_0_2_1) : (⟨S256x32x4096, .f32⟩ : BufTy).Contents (Elt F) → (⟨S256x4096x32, .f32⟩ : BufTy).Contents (Elt F))),
  (StableHlo.reshape main_v15_1 main_v18 (rfl : (.f32 : EltTy) = .f32) shapeCasts_S256x32x128_S256x4096)]

theorem main_eq (d : Dev nD) :
    main (F := F) d = seq opsA >>= fun _ => (K (F := F)).run d 0 >>= fun _ => seq opsB >>= fun u => pure u := by
  simp only [main, fn_cumsum.body, fn_cumsum_0.body, seq, bind_assoc, pure_bind]

variable (m : (ℓ : Loc nD τ sig) → Buf (Elt F) ℓ) (ρ : Dev nD → PrngReg)

/-- The TensorCore's arrays, as references: all, and all but the call's operands. -/
abbrev tcR (r : Ref sig .tc) : DevRef τ sig := Proc.devRef .tc r
def bufs : Finset (DevRef τ sig) := (StableHlo.tcRefs τ sig).filter fun b => ¬ b.isScoped
abbrev opd : Finset (DevRef τ sig) := {tcR main_v12, tcR main_v13, tcR main_v14, tcR main_v6}
abbrev res : Finset (DevRef τ sig) := {tcR main_v15_0, tcR main_v15_1}

/-- The arrays' contents when the call is made. -/
def VA (d : Dev nD) : Valuation τ sig (Elt F) := after opsA (launchContents m d)

/-- The call's operands there. -/
def arrs : Arrays F where
  st d := VA m d (tcR main_v12)
  cs d := VA m d (tcR main_v13)
  wt d := VA m d (tcR main_v14)
  mw d := VA m d (tcR main_v6)
  os d := VA m d (tcR main_v15_0)
  ow d := VA m d (tcR main_v15_1)

/-- The two results. -/
def resS (d : Dev nD) : S8192x32x128.Idx → F .f32 := outS ((arrs m).st d) ((arrs m).cs d) ((arrs m).mw d)
def resW (d : Dev nD) : S256x32x128.Idx → F .f32 := outW ((arrs m).wt d) ((arrs m).mw d)

/-- The contents after the call, and at the end. -/
def VC (d : Dev nD) : Valuation τ sig (Elt F) := Function.update (Function.update (VA m d) (tcR main_v15_0) (resS m d)) (tcR main_v15_1) (resW m d)
def VB (d : Dev nD) : Valuation τ sig (Elt F) := after opsB (VC m d)

theorem opsA_bufs : ∀ op ∈ opsA (F := F), op.bufs ⊆ bufs := by
  have h : (opsA (F := F)).Forall fun op => op.bufs ⊆ StableHlo.tcRefs τ sig := by
    simp only [List.forall_cons, List.Forall]
    simp
  exact fun op hop b hb => Finset.mem_filter.mpr ⟨(List.forall_iff_forall_mem.mp h) op hop hb, fun h' => Bool.false_ne_true ((op.no_scoped b hb).symm.trans h')⟩
theorem opsA_fresh : ∀ op ∈ opsA (F := F), op.fresh = ∅ := List.forall_iff_forall_mem.mp (StableHlo.forall_fresh_of_map rfl)
theorem opsB_fresh : ∀ op ∈ opsB (F := F), op.fresh = ∅ := List.forall_iff_forall_mem.mp (StableHlo.forall_fresh_of_map rfl)

theorem opd_sub : opd ⊆ bufs := by decide
theorem res_sub : res ⊆ bufs \ opd := by decide
theorem opsB_bufs : ∀ op ∈ opsB (F := F), op.bufs ⊆ bufs \ opd := by
  have h : (opsB (F := F)).Forall fun op => op.bufs ⊆ bufs \ opd :=
    ⟨show ({tcR main_v15_0, tcR main_v16} : Finset (DevRef τ sig)) ⊆ _ by decide, show ({tcR main_v16, tcR main_v17} : Finset (DevRef τ sig)) ⊆ _ by decide,
      show ({tcR main_v15_1, tcR main_v18} : Finset (DevRef τ sig)) ⊆ _ by decide⟩
  exact List.forall_iff_forall_mem.mp h

theorem unscoped_held (d : Dev nD) :
    (unscopedBufs d (fun b => m ((SparseCore.T d).loc b)) : sProp 𝕄) = held (T d) bufs (launchContents m d) := by
  unfold unscopedBufs StableHlo.held bufs StableHlo.tcRefs
  rw [Finset.filter_map, BI.bigSep_map]
  rfl

theorem held_opd (d : Dev nD) (W : Valuation τ sig (Elt F)) :
    (held (T d) opd W : sProp 𝕄) = iprop(((SparseCore.T d).loc main_v12 ↦{fullShare} W (tcR main_v12)) ∗ ((SparseCore.T d).loc main_v13 ↦{fullShare} W (tcR main_v13))
      ∗ ((SparseCore.T d).loc main_v14 ↦{fullShare} W (tcR main_v14)) ∗ (SparseCore.T d).loc main_v6 ↦{fullShare} W (tcR main_v6)) := by
  unfold held opd
  rw [SparseCore.bigSep_insert' (by decide), SparseCore.bigSep_insert' (by decide), SparseCore.bigSep_insert' (by decide), bigSep_singleton]
theorem held_res (d : Dev nD) (W : Valuation τ sig (Elt F)) :
    (held (T d) res W : sProp 𝕄) = iprop(((SparseCore.T d).loc main_v15_0 ↦{fullShare} W (tcR main_v15_0)) ∗ (SparseCore.T d).loc main_v15_1 ↦{fullShare} W (tcR main_v15_1)) := by
  unfold held res
  rw [SparseCore.bigSep_insert' (by decide), bigSep_singleton]

theorem VC_0 (d : Dev nD) : VC m d (tcR main_v15_0) = resS m d :=
  (Function.update_of_ne (show tcR main_v15_0 ≠ tcR main_v15_1 by decide) _ _).trans (Function.update_self _ _ _)
theorem VC_1 (d : Dev nD) : VC m d (tcR main_v15_1) = resW m d := Function.update_self _ _ _
theorem VC_ne (d : Dev nD) (b : DevRef τ sig) (h : b ∉ res) : VC m d b = VA m d b := by
  have h0 : b ≠ tcR main_v15_0 := fun e => h (by rw [e]; decide)
  have h1 : b ≠ tcR main_v15_1 := fun e => h (by rw [e]; decide)
  exact (Function.update_of_ne h1 _ _).trans (Function.update_of_ne h0 _ _)

/-- What @main leaves the claim: every array but the call's operands, at its final contents. -/
abbrev FIN (d : Dev nD) : sProp 𝕄 := held (T d) (bufs \ opd) (VB m d)

theorem hmain (κ : GSem nD τ sig → ℕ) (d : Dev nD) :
    iprop((K (F := F)).ctx EH (P (arrs m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d bufs _ opsA opsA_bufs opsA_fresh (launchContents m d)) $$ [Hb Hheld]
  · isplitl [Hb]; · iexact Hb
    iexact Hheld
  iintro ⟨Hb, Hheld⟩
  ihave Hh := (Entails.of_eq (show (held d.tc bufs (after opsA (launchContents m d)) : sProp 𝕄) = iprop(held (T d) opd (VA m d) ∗ held (T d) (bufs \ opd) (VA m d))
    from StableHlo.held_sub_split (T d) opd_sub (VA m d))) $$ Hheld
  icases Hh with ⟨Ho, Hheld⟩
  ihave Hh := (Entails.of_eq (StableHlo.held_sub_split (T d) res_sub (VA m d))) $$ Hheld
  icases Hh with ⟨Hr, Hrest⟩
  ihave Ho' := (Entails.of_eq (held_opd d (VA m d))) $$ Ho
  icases Ho' with ⟨H12, H13, H14, H6⟩
  ihave Hr' := (Entails.of_eq (held_res d (VA m d))) $$ Hr
  icases Hr' with ⟨H0, H1⟩
  rw [wp_bind]
  iapply ((K (F := F)).wp_run (D (F := F)) 𝒱 (EH := EH) (P := P (arrs m)) κ d 0) $$ [Hst H12 H13 H14 H6 H0 H1 Hb Hrest Hts]
  isplitr; · iexact Hctx
  isplitl [Hst]; · iexact Hst
  isplitl [H12 H13 H14 H6 H0 H1]
  · rw [st0_eq]
    isplitl [H12]; · iexact H12
    isplitl [H13]; · iexact H13
    isplitl [H14]; · iexact H14
    isplitl [H6]; · iexact H6
    isplitl [H0]; · iexact H0
    iexact H1
  iintro ⟨Hst, Hdn⟩
  ihave Hdn' := (Entails.of_eq (dn0_eq (arrs m) d)) $$ Hdn
  icases Hdn' with ⟨H0, H1⟩
  iapply (StableHlo.wp_seq 𝒱 none Set.univ d (bufs \ opd) _ opsB opsB_bufs opsB_fresh (VC m d)) $$ [Hb Hrest H0 H1]
  · isplitl [Hb]; · iexact Hb
    iapply (Entails.of_eq (StableHlo.held_sub_split (T d) res_sub (VC m d)).symm)
    isplitl [H0 H1]
    · iapply (Entails.of_eq (held_res d (VC m d)).symm)
      rw [VC_0, VC_1]
      isplitl [H0]; · iexact H0
      iexact H1
    · iapply (Entails.of_eq (StableHlo.held_congr (T d) (S := (bufs \ opd) \ res) (V := VA m d) (V' := VC m d)
        fun b hb => (VC_ne m d b (Finset.mem_sdiff.mp hb).2).symm))
      iexact Hrest
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ bufs \ opd, s'.mem.mem (d, b) = VB m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (c := d) (qs := fun _ => fullShare) (F := VB m d) (bufs \ opd))
  isplitl [HSI]; · iexact HSI
  iexact H

/-! ## The program's run -/

def QC : PUnit × MemSt nD τ sig (Elt F) → Prop :=
  fun r => (∀ d : Dev nD, ∀ b ∈ bufs \ opd, r.2.mem (d, b) = VB m d b) ∧ r.2.sem = fun _ => 0

theorem run_of_mask [∀ e, Nonempty (Elt F e)] (hmk : ∀ d i, ((arrs m).mw d i).toNat < 2 ^ 31) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (arrs m)) (A := ∅) launchFacts v₀
    (fun q hq => match q with | 0 => nomatch hq)
    (fun q _ => match q with | 0 => tileObl (arrs m) hmk)
    (fun q _ => match q with | 0 => SparseCore.Cfg.VecSplit.of_plain (vecSplit (arrs m)))
    m ρ main (fun _ => iprop(emp)) (FIN m) (u₀ (F := F)) (sep_elim_left.trans (hu₀ (arrs m))) (hmain m ρ) (fq m) (hfin m) (QC m) (fun _ h hz => ⟨h, hz⟩)

end Cert.Proof.Resample
-- ==== Proof.Values.lean ====
/-
  What @main's operations compute: the mask, the normalised running sums and the arrays the call reads as plain functions of the
  two arguments, and the two results as plain functions of what the call leaves; and the run's frame.
-/
module

public import proofs.«01_k».proof.Proof.Main

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

variable [FloatOps F]

open Idealize.ShloMosaic.StableHlo (after seq launchContents)

/-- The batches to resample: `1 / Σ w² < 2048`. -/
def maskV (w : FVec F S256x4096 .f32) : IVec S256 1 :=
  cmpf .olt (Host.divf (broadcastInDim S256 ![] bcast_S_S256 (constant S_ .f32 0x3F800000#32))
    (Host.reduceAdd (mulf w w) (constant S_ .f32 0x00000000#32) reducesTo_S256x4096_S256_d1 h_S_))
    (broadcastInDim S256 ![] bcast_S_S256 (constant S_ .f32 0x45000000#32))

/-- The running sums of the weights. -/
def sumV (w : FVec F S256x4096 .f32) : FVec F S256x4096 .f32 :=
  Host.reduceWindowAdd ![1, 4096] ![1, 1] ![0, 4095] ![0, 0] w (broadcastInDim S_ ![] bcast_S_S_ (constant S_ .f32 0x00000000#32))
    reduceWindows_S256x4096_S256x4096_w1s1p0_0_w4096s1p4095_0 h_S_

/-- The running sums over the last of them. -/
def cdfV (w : FVec F S256x4096 .f32) : FVec F S256x4096 .f32 :=
  Host.divf (sumV w) (broadcastInDim S256x4096 ![0, 1] bcast_S256x1_S256x4096_0_1 (extractStridedSlice S256x1 ![0, 4095] (sumV w) slices_S256x4096_S256x1_0_4095))

variable (m : (ℓ : Loc nD τ sig) → Buf (Elt F) ℓ) (ρ : Dev nD → PrngReg)

abbrev arg0 (d : Dev nD) : FVec F S256x4096x32 .f32 := m ((SparseCore.T d).loc main_arg0)
abbrev arg1 (d : Dev nD) : FVec F S256x4096 .f32 := m ((SparseCore.T d).loc main_arg1)

theorem VA_mask (d : Dev nD) : VA m d (tcR main_v6) = extui 32 (maskV (arg1 m d)) natLt_1_32 := by
  unfold VA
  after_results_simp
  rfl
theorem VA_cdf (d : Dev nD) : VA m d (tcR main_v13) = shapeCast S256x32x128 (cdfV (arg1 m d)) shapeCasts_S256x4096_S256x32x128 := by
  unfold VA
  after_results_simp
  rfl
theorem VA_wt (d : Dev nD) : VA m d (tcR main_v14) = shapeCast S256x32x128 (arg1 m d) shapeCasts_S256x4096_S256x32x128 := by
  unfold VA
  after_results_simp
  rfl
theorem VA_st (d : Dev nD) : VA m d (tcR main_v12)
    = shapeCast S8192x32x128 (transpose S256x32x4096 [0, 2, 1] (arg0 m d) transposes_S256x4096x32_S256x32x4096_0_2_1) shapeCasts_S256x32x4096_S8192x32x128 := by
  unfold VA
  after_results_simp
  rfl
theorem VA_arg0 (d : Dev nD) : VA m d (tcR main_arg0) = arg0 m d := by
  unfold VA
  after_results_simp
theorem VA_arg1 (d : Dev nD) : VA m d (tcR main_arg1) = arg1 m d := by
  unfold VA
  after_results_simp

theorem VB_arg0 (d : Dev nD) : VB m d (tcR main_arg0) = arg0 m d := by
  unfold VB
  after_results_simp
  exact (VC_ne m d (tcR main_arg0) (by decide)).trans (VA_arg0 m d)
theorem VB_arg1 (d : Dev nD) : VB m d (tcR main_arg1) = arg1 m d := by
  unfold VB
  after_results_simp
  exact (VC_ne m d (tcR main_arg1) (by decide)).trans (VA_arg1 m d)
theorem VB_v17 (d : Dev nD) : VB m d (tcR main_v17)
    = transpose S256x4096x32 [0, 2, 1] (shapeCast S256x32x4096 (resS m d) shapeCasts_S8192x32x128_S256x32x4096) transposes_S256x32x4096_S256x4096x32_0_2_1 := by
  unfold VB
  after_results_simp
  rw [VC_0]
  rfl
theorem VB_v18 (d : Dev nD) : VB m d (tcR main_v18) = shapeCast S256x4096 (resW m d) shapeCasts_S256x32x128_S256x4096 := by
  unfold VB
  after_results_simp
  rw [VC_1]
  rfl

/-- Every mask word is zero or one. -/
theorem mask_small (d : Dev nD) (i : S256.Idx) : ((arrs m).mw d i).toNat < 2 ^ 31 := by
  show (VA m d (tcR main_v6) i).toNat < 2 ^ 31
  rw [VA_mask]
  show ((maskV (arg1 m d) i).setWidth 32).toNat < 2 ^ 31
  rw [BitVec.toNat_setWidth]
  have := (maskV (arg1 m d) i).isLt
  omega

/-- The program's run: the two arguments end as they began, the two results as stated, every counter at zero. -/
theorem run_main [∀ e, Nonempty (Elt F e)] :
    θ_run (Cert.KernelIdeal.defs (F := F)) (Cert.KernelIdeal.threads (F := F)) ⟨m, fun _ => 0, ρ⟩ (fun r => (∀ d : Dev nD,
      r.2.mem ((SparseCore.T d).loc main_v17) = transpose S256x4096x32 [0, 2, 1] (shapeCast S256x32x4096 (resS m d) shapeCasts_S8192x32x128_S256x32x4096) transposes_S256x32x4096_S256x4096x32_0_2_1
      ∧ r.2.mem ((SparseCore.T d).loc main_v18) = shapeCast S256x4096 (resW m d) shapeCasts_S256x32x128_S256x4096
      ∧ r.2.mem ((SparseCore.T d).loc main_arg0) = arg0 m d ∧ r.2.mem ((SparseCore.T d).loc main_arg1) = arg1 m d)
      ∧ r.2.sem = fun _ => 0) :=
  (θ_run Cert.KernelIdeal.defs _ _).mono (fun r h => ⟨fun d =>
    ⟨(h.1 d (tcR main_v17) (by decide)).trans (VB_v17 m d), (h.1 d (tcR main_v18) (by decide)).trans (VB_v18 m d),
      (h.1 d (tcR main_arg0) (by decide)).trans (VB_arg0 m d), (h.1 d (tcR main_arg1) (by decide)).trans (VB_arg1 m d)⟩, h.2⟩)
    (run_of_mask m ρ (mask_small m))

end Cert.Proof.Resample
-- ==== Proof.Ref.lean ====
/-
  The reference's run: its operations in order, what each of its results is as a function of the two arguments.
-/
module

public import proofs.«01_k».proof.Defs
public import Idealize.ShloMosaic.Lib.StableHlo.Run
public import Idealize.ShloMosaic.Lib.Quiescent
public import proofs.«01_k».proof.Proof.Gen.ReferenceIdeal

@[expose] public section

noncomputable section

namespace Cert.Proof.Resample.Spec

open Idealize.ShloMosaic Idealize.ShloMosaic.TcCoe Idealize.ShloMosaic.StableHlo Idealize.SL.Sem
open Cert.ReferenceIdeal Cert.ReferenceIdeal.Gen

variable {F : FTy → Type} [FloatOps F]

/-- The operations, every function's body in its caller's place. -/
abbrev ops : List (HloOp τ sig (Elt F)) := [
  (StableHlo.binary main_arg1 main_arg1 main_v0 (mulf : (⟨S256x4096, .f32⟩ : BufTy).Contents (Elt F) → (⟨S256x4096, .f32⟩ : BufTy).Contents (Elt F) → (⟨S256x4096, .f32⟩ : BufTy).Contents (Elt F))),
  (StableHlo.nullary main_cst (constant S_ .f32 0x00000000#32)),
  (StableHlo.binary main_v0 main_cst main_v1 ((fun x v => Host.reduceAdd x v reducesTo_S256x4096_S256_d1 h_S_) : (⟨S256x4096, .f32⟩ : BufTy).Contents (Elt F) → (⟨S_, .f32⟩ : BufTy).Contents (Elt F) → (⟨S256, .f32⟩ : BufTy).Contents (Elt F))),
  (StableHlo.nullary main_cst_0 (constant S_ .f32 0x3F800000#32)),
  (StableHlo.unary main_cst_0 main_v2 (broadcastInDim S256 ![] bcast_S_S256 : (⟨S_, .f32⟩ : BufTy).Contents (Elt F) → (⟨S256, .f32⟩ : BufTy).Contents (Elt F))),
  (StableHlo.binary main_v2 main_v1 main_v3 (Host.divf : (⟨S256, .f32⟩ : BufTy).Contents (Elt F) → (⟨S256, .f32⟩ : BufTy).Contents (Elt F) → (⟨S256, .f32⟩ : BufTy).Contents (Elt F))),
  (StableHlo.nullary main_cst_1 (constant S_ .f32 0x45000000#32)),
  (StableHlo.unary main_cst_1 main_v4 (broadcastInDim S256 ![] bcast_S_S256 : (⟨S_, .f32⟩ : BufTy).Contents (Elt F) → (⟨S256, .f32⟩ : BufTy).Contents (Elt F))),
  (StableHlo.binary main_v3 main_v4 main_v5 (cmpf .olt : (⟨S256, .f32⟩ : BufTy).Contents (Elt F) → (⟨S256, .f32⟩ : BufTy).Contents (Elt F) → (⟨S256, .i1⟩ : BufTy).Contents (Elt F))),
  (StableHlo.TRef.nullary main_call0_call0.cst (constant S_ .f32 0x00000000#32)),
  (StableHlo.TRef.unary main_call0_call0.cst main_call0_call0.v0 (broadcastInDim S_ ![] bcast_S_S_)),
  (StableHlo.TRef.binary (.of main_arg1 : StableHlo.TRef sig ⟨S256x4096, .f32⟩) main_call0_call0.v0 main_call0_call0.v1 (fun x v => Host.reduceWindowAdd ![1, 4096] ![1, 1] ![0, 4095] ![0, 0] x v reduceWindows_S256x4096_S256x4096_w1s1p0_0_w4096s1p4095_0 h_S_)),
  (StableHlo.unary main_v6 main_v7 ((extractStridedSlice S256x1 ![0, 4095] · slices_S256x4096_S256x1_0_4095) : (⟨S256x4096, .f32⟩ : BufTy).Contents (Elt F) → (⟨S256x1, .f32⟩ : BufTy).Contents (Elt F))),
  (StableHlo.unary main_v7 main_v8 (broadcastInDim S256x4096 ![0, 1] bcast_S256x1_S256x4096_0_1 : (⟨S256x1, .f32⟩ : BufTy).Contents (Elt F) → (⟨S256x4096, .f32⟩ : BufTy).Contents (Elt F))),
  (StableHlo.binary main_v6 main_v8 main_v9 (Host.divf : (⟨S256x4096, .f32⟩ : BufTy).Contents (Elt F) → (⟨S256x4096, .f32⟩ : BufTy).Contents (Elt F) → (⟨S256x4096, .f32⟩ : BufTy).Contents (Elt F))),
  (StableHlo.nullary main_v10 (sitofp .f32 (iotaInDim S4096 32 0))),
  (StableHlo.nullary main_cst_2 (constant S_ .f32 0x3F000000#32)),
  (StableHlo.unary main_cst_2 main_v11 (broadcastInDim S4096 ![] bcast_S_S4096 : (⟨S_, .f32⟩ : BufTy).Contents (Elt F) → (⟨S4096, .f32⟩ : BufTy).Contents (Elt F))),
  (StableHlo.binary main_v10 main_v11 main_v12 (addf : (⟨S4096, .f32⟩ : BufTy).Contents (Elt F) → (⟨S4096, .f32⟩ : BufTy).Contents (Elt F) → (⟨S4096, .f32⟩ : BufTy).Contents (Elt F))),
  (StableHlo.nullary main_cst_3 (constant S_ .f32 0x45800000#32)),
  (StableHlo.unary main_cst_3 main_v13 (broadcastInDim S4096 ![] bcast_S_S4096 : (⟨S_, .f32⟩ : BufTy).Contents (Elt F) → (⟨S4096, .f32⟩ : BufTy).Contents (Elt F))),
  (StableHlo.binary main_v12 main_v13 main_v14 (Host.divf : (⟨S4096, .f32⟩ : BufTy).Contents (Elt F) → (⟨S4096, .f32⟩ : BufTy).Contents (Elt F) → (⟨S4096, .f32⟩ : BufTy).Contents (Elt F))),
  (StableHlo.unary main_v9 main_v15 (broadcastInDim S256x1x4096 ![0, 2] bcast_S256x4096_S256x1x4096_0_2 : (⟨S256x4096, .f32⟩ : BufTy).Contents (Elt F) → (⟨S256x1x4096, .f32⟩ : BufTy).Contents (Elt F))),
  (StableHlo.unary main_v14 main_v16 (broadcastInDim S1x4096x1 ![1] bcast_S4096_S1x4096x1_1 : (⟨S4096, .f32⟩ : BufTy).Contents (Elt F) → (⟨S1x4096x1, .f32⟩ : BufTy).Contents (Elt F))),
  (StableHlo.unary main_v15 main_v17 (broadcastInDim S256x4096x4096 ![0, 1, 2] bcast_S256x1x4096_S256x4096x4096_0_1_2 : (⟨S256x1x4096, .f32⟩ : BufTy).Contents (Elt F) → (⟨S256x4096x4096, .f32⟩ : BufTy).Contents (Elt F))),
  (StableHlo.unary main_v16 main_v18 (broadcastInDim S256x4096x4096 ![0, 1, 2] bcast_S1x4096x1_S256x4096x4096_0_1_2 : (⟨S1x4096x1, .f32⟩ : BufTy).Contents (Elt F) → (⟨S256x4096x4096, .f32⟩ : BufTy).Contents (Elt F))),
  (StableHlo.binary main_v17 main_v18 main_v19 (cmpf .olt : (⟨S256x4096x4096, .f32⟩ : BufTy).Contents (Elt F) → (⟨S256x4096x4096, .f32⟩ : BufTy).Contents (Elt F) → (⟨S256x4096x4096, .i1⟩ : BufTy).Contents (Elt F))),
  (StableHlo.unary main_v19 main_v20 ((extui 32 · natLt_1_32) : (⟨S256x4096x4096, .i1⟩ : BufTy).Contents (Elt F) → (⟨S256x4096x4096, .i32⟩ : BufTy).Contents (Elt F))),
  (StableHlo.nullary main_c (constantI S_ 32 0#32)),
  (StableHlo.binary main_v20 main_c main_v21 ((fun x v => Host.reduce IntOp.addi x v reducesTo_S256x4096x4096_S256x4096_d2 h_S_) : (⟨S256x4096x4096, .i32⟩ : BufTy).Contents (Elt F) → (⟨S_, .i32⟩ : BufTy).Contents (Elt F) → (⟨S256x4096, .i32⟩ : BufTy).Contents (Elt F))),
  (StableHlo.unary main_v21 main_v22 (broadcastInDim S256x4096x1 ![0, 1] bcast_S256x4096_S256x4096x1_0_1 : (⟨S256x4096, .i32⟩ : BufTy).Contents (Elt F) → (⟨S256x4096x1, .i32⟩ : BufTy).Contents (Elt F))),
  (StableHlo.TRef.nullary main_call1.c (constantI S_ 32 0#32)),
  (StableHlo.TRef.unary main_call1.c main_call1.v0 (broadcastInDim S256x4096x1 ![] bcast_S_S256x4096x1)),
  (StableHlo.TRef.binary (.of main_v22 : StableHlo.TRef sig ⟨S256x4096x1, .i32⟩) main_call1.v0 main_call1.v1 (cmpi .slt)),
  (StableHlo.TRef.nullary main_call1.c_0 (constantI S_ 32 4096#32)),
  (StableHlo.TRef.unary main_call1.c_0 main_call1.v2 (broadcastInDim S256x4096x1 ![] bcast_S_S256x4096x1)),
  (StableHlo.TRef.binary (.of main_v22 : StableHlo.TRef sig ⟨S256x4096x1, .i32⟩) main_call1.v2 main_call1.v3 addi),
  (StableHlo.TRef.ternary main_call1.v1 main_call1.v3 (.of main_v22 : StableHlo.TRef sig ⟨S256x4096x1, .i32⟩) main_call1.v4 select),
  (StableHlo.TRef.nullary main_call1.c_1 (constantI S1 32 4095#32)),
  (StableHlo.TRef.nullary main_call1.c_2 (constantI S_ 32 0#32)),
  (StableHlo.TRef.unary main_call1.c_2 main_call1.v5 (broadcastInDim S256x4096x1 ![] bcast_S_S256x4096x1)),
  (StableHlo.TRef.binary main_call1.v4 main_call1.v5 main_call1.v6 (cmpi .sge)),
  (StableHlo.TRef.unary main_call1.c_1 main_call1.v7 (broadcastInDim S1x1x1 ![2] bcast_S1_S1x1x1_2)),
  (StableHlo.TRef.unary main_call1.v7 main_call1.v8 (broadcastInDim S256x4096x1 ![0, 1, 2] bcast_S1x1x1_S256x4096x1_0_1_2)),
  (StableHlo.TRef.binary main_call1.v4 main_call1.v8 main_call1.v9 (cmpi .sle)),
  (StableHlo.TRef.binary main_call1.v6 main_call1.v9 main_call1.v10 andi),
  (StableHlo.TRef.nullary main_call1.c_3 (constantI S_ 1 1#1)),
  (StableHlo.TRef.binary main_call1.v10 main_call1.c_3 main_call1.v11 (fun x v => Host.reduce IntOp.andi x v reducesTo_S256x4096x1_S256x4096_d2 h_S_)),
  (StableHlo.TRef.binary (.of main_arg0 : StableHlo.TRef sig ⟨S256x4096x32, .f32⟩) main_call1.v4 main_call1.v12 (fun x i => Host.gather gather_S256x4096x32_S256x4096x1_S256x4096x32_2_1_0_0_1_2_1132 x i)),
  (StableHlo.TRef.unary main_call1.v11 main_call1.v13 (broadcastInDim S256x4096x32 ![0, 1] bcast_S256x4096_S256x4096x32_0_1)),
  (StableHlo.TRef.nullary main_call1.cst (constant S_ .f32 0x7FC00000#32)),
  (StableHlo.TRef.unary main_call1.cst main_call1.v14 (broadcastInDim S256x4096x32 ![] bcast_S_S256x4096x32)),
  (StableHlo.TRef.ternary main_call1.v13 main_call1.v12 main_call1.v14 main_call1.v15 select),
  (StableHlo.nullary main_cst_4 (constant S_ .f32 0x39800000#32)),
  (StableHlo.unary main_cst_4 main_v24 (broadcastInDim S256x4096 ![] bcast_S_S256x4096 : (⟨S_, .f32⟩ : BufTy).Contents (Elt F) → (⟨S256x4096, .f32⟩ : BufTy).Contents (Elt F))),
  (StableHlo.unary main_v5 main_v25 (broadcastInDim S256x1x1 ![0] bcast_S256_S256x1x1_0 : (⟨S256, .i1⟩ : BufTy).Contents (Elt F) → (⟨S256x1x1, .i1⟩ : BufTy).Contents (Elt F))),
  (StableHlo.TRef.unary (.of main_v25 : StableHlo.TRef sig ⟨S256x1x1, .i1⟩) main_call2.v0 (broadcastInDim S256x4096x32 ![0, 1, 2] bcast_S256x1x1_S256x4096x32_0_1_2)),
  (StableHlo.TRef.ternary main_call2.v0 (.of main_v23 : StableHlo.TRef sig ⟨S256x4096x32, .f32⟩) (.of main_arg0 : StableHlo.TRef sig ⟨S256x4096x32, .f32⟩) main_call2.v1 select),
  (StableHlo.unary main_v5 main_v27 (broadcastInDim S256x1 ![0] bcast_S256_S256x1_0 : (⟨S256, .i1⟩ : BufTy).Contents (Elt F) → (⟨S256x1, .i1⟩ : BufTy).Contents (Elt F))),
  (StableHlo.TRef.unary (.of main_v27 : StableHlo.TRef sig ⟨S256x1, .i1⟩) main_call3.v0 (broadcastInDim S256x4096 ![0, 1] bcast_S256x1_S256x4096_0_1)),
  (StableHlo.TRef.ternary main_call3.v0 (.of main_v24 : StableHlo.TRef sig ⟨S256x4096, .f32⟩) (.of main_arg1 : StableHlo.TRef sig ⟨S256x4096, .f32⟩) main_call3.v1 select)]

theorem main_eq (c : Dev nD) : main (F := F) c = seq ops := by
  simp only [main, fn_cumsum.body, fn_cumsum_0.body, fn_take_along_axis.body, fn_where.body, fn_where_1.body, seq, bind_assoc, pure_bind]

/-! ## What it computes -/

/-- The batches to resample. -/
def maskR (w : FVec F S256x4096 .f32) : IVec S256 1 :=
  cmpf .olt (Host.divf (broadcastInDim S256 ![] bcast_S_S256 (constant S_ .f32 0x3F800000#32))
    (Host.reduceAdd (mulf w w) (constant S_ .f32 0x00000000#32) reducesTo_S256x4096_S256_d1 h_S_))
    (broadcastInDim S256 ![] bcast_S_S256 (constant S_ .f32 0x45000000#32))

/-- The running sums. -/
def sumR (w : FVec F S256x4096 .f32) : FVec F S256x4096 .f32 :=
  Host.reduceWindowAdd ![1, 4096] ![1, 1] ![0, 4095] ![0, 0] w (broadcastInDim S_ ![] bcast_S_S_ (constant S_ .f32 0x00000000#32))
    reduceWindows_S256x4096_S256x4096_w1s1p0_0_w4096s1p4095_0 h_S_

/-- The running sums over the last. -/
def cdfR (w : FVec F S256x4096 .f32) : FVec F S256x4096 .f32 :=
  Host.divf (sumR w) (broadcastInDim S256x4096 ![0, 1] bcast_S256x1_S256x4096_0_1 (extractStridedSlice S256x1 ![0, 4095] (sumR w) slices_S256x4096_S256x1_0_4095))

/-- The points looked up. -/
def ptsR : FVec F S4096 .f32 :=
  Host.divf (addf (sitofp .f32 (iotaInDim S4096 32 0)) (broadcastInDim S4096 ![] bcast_S_S4096 (constant S_ .f32 0x3F000000#32)))
    (broadcastInDim S4096 ![] bcast_S_S4096 (constant S_ .f32 0x45800000#32))

/-- How many running sums lie below each point. -/
def cntR (w : FVec F S256x4096 .f32) : IVec S256x4096 32 :=
  Host.reduce IntOp.addi (extui 32 (cmpf .olt
    (broadcastInDim S256x4096x4096 ![0, 1, 2] bcast_S256x1x4096_S256x4096x4096_0_1_2 (broadcastInDim S256x1x4096 ![0, 2] bcast_S256x4096_S256x1x4096_0_2 (cdfR w)))
    (broadcastInDim S256x4096x4096 ![0, 1, 2] bcast_S1x4096x1_S256x4096x4096_0_1_2 (broadcastInDim S1x4096x1 ![1] bcast_S4096_S1x4096x1_1 ptsR))) natLt_1_32)
    (constantI S_ 32 0#32) reducesTo_S256x4096x4096_S256x4096_d2 h_S_

/-- An index counted from the end where it is negative. -/
def wrapR (i : IVec S256x4096x1 32) : IVec S256x4096x1 32 :=
  select (cmpi .slt i (broadcastInDim S256x4096x1 ![] bcast_S_S256x4096x1 (constantI S_ 32 0#32)))
    (addi i (broadcastInDim S256x4096x1 ![] bcast_S_S256x4096x1 (constantI S_ 32 4096#32))) i

/-- The states at the indices. -/
def takeR (st : FVec F S256x4096x32 .f32) (i : IVec S256x4096x1 32) : FVec F S256x4096x32 .f32 :=
  select (broadcastInDim S256x4096x32 ![0, 1] bcast_S256x4096_S256x4096x32_0_1
      (Host.reduce IntOp.andi (andi (cmpi .sge (wrapR i) (broadcastInDim S256x4096x1 ![] bcast_S_S256x4096x1 (constantI S_ 32 0#32)))
        (cmpi .sle (wrapR i) (broadcastInDim S256x4096x1 ![0, 1, 2] bcast_S1x1x1_S256x4096x1_0_1_2 (broadcastInDim S1x1x1 ![2] bcast_S1_S1x1x1_2 (constantI S1 32 4095#32)))))
        (constantI S_ 1 1#1) reducesTo_S256x4096x1_S256x4096_d2 h_S_))
    (Host.gather gather_S256x4096x32_S256x4096x1_S256x4096x32_2_1_0_0_1_2_1132 st (wrapR i))
    (broadcastInDim S256x4096x32 ![] bcast_S_S256x4096x32 (constant S_ .f32 0x7FC00000#32))

/-- The states it returns. -/
def stateR (st : FVec F S256x4096x32 .f32) (w : FVec F S256x4096 .f32) : FVec F S256x4096x32 .f32 :=
  select (broadcastInDim S256x4096x32 ![0, 1, 2] bcast_S256x1x1_S256x4096x32_0_1_2 (broadcastInDim S256x1x1 ![0] bcast_S256_S256x1x1_0 (maskR w)))
    (takeR st (broadcastInDim S256x4096x1 ![0, 1] bcast_S256x4096_S256x4096x1_0_1 (cntR w))) st

/-- The weights it returns. -/
def weightR (w : FVec F S256x4096 .f32) : FVec F S256x4096 .f32 :=
  select (broadcastInDim S256x4096 ![0, 1] bcast_S256x1_S256x4096_0_1 (broadcastInDim S256x1 ![0] bcast_S256_S256x1_0 (maskR w)))
    (broadcastInDim S256x4096 ![] bcast_S_S256x4096 (constant S_ .f32 0x39800000#32)) w

variable (V : Valuation τ sig (Elt F))

theorem arg0_eq : after ops V (main_arg0 : DevRef τ sig) = V (main_arg0 : DevRef τ sig) := by
  after_results_simp
theorem arg1_eq : after ops V (main_arg1 : DevRef τ sig) = V (main_arg1 : DevRef τ sig) := by
  after_results_simp
-- a reference typed by its array reads and writes the array itself
theorem ofBuf_v22 (p q s) (x : (⟨S256x4096x1, .i32⟩ : BufTy).Contents (Elt F)) : (TRef.of main_v22 p q s : TRef sig ⟨S256x4096x1, .i32⟩).ofBuf x = x := rfl
theorem ofBuf_arg0 (p q s) (x : (⟨S256x4096x32, .f32⟩ : BufTy).Contents (Elt F)) : (TRef.of main_arg0 p q s : TRef sig ⟨S256x4096x32, .f32⟩).ofBuf x = x := rfl
theorem ofBuf_arg1 (p q s) (x : (⟨S256x4096, .f32⟩ : BufTy).Contents (Elt F)) : (TRef.of main_arg1 p q s : TRef sig ⟨S256x4096, .f32⟩).ofBuf x = x := rfl
theorem toBuf_v6 (p q s) (x : (⟨S256x4096, .f32⟩ : BufTy).Contents (Elt F)) : (TRef.of main_v6 p q s : TRef sig ⟨S256x4096, .f32⟩).toBuf x = x := rfl
theorem ofBuf_v25 (p q s) (x : (⟨S256x1x1, .i1⟩ : BufTy).Contents (Elt F)) : (TRef.of main_v25 p q s : TRef sig ⟨S256x1x1, .i1⟩).ofBuf x = x := rfl
theorem ofBuf_v27 (p q s) (x : (⟨S256x1, .i1⟩ : BufTy).Contents (Elt F)) : (TRef.of main_v27 p q s : TRef sig ⟨S256x1, .i1⟩).ofBuf x = x := rfl
theorem ofBuf_v24 (p q s) (x : (⟨S256x4096, .f32⟩ : BufTy).Contents (Elt F)) : (TRef.of main_v24 p q s : TRef sig ⟨S256x4096, .f32⟩).ofBuf x = x := rfl
theorem toBuf_v26 (p q s) (x : (⟨S256x4096x32, .f32⟩ : BufTy).Contents (Elt F)) : (TRef.of main_v26 p q s : TRef sig ⟨S256x4096x32, .f32⟩).toBuf x = x := rfl
theorem toBuf_v28 (p q s) (x : (⟨S256x4096, .f32⟩ : BufTy).Contents (Elt F)) : (TRef.of main_v28 p q s : TRef sig ⟨S256x4096, .f32⟩).toBuf x = x := rfl

theorem state_eq : after ops V (main_v26 : DevRef τ sig) = stateR (V (main_arg0 : DevRef τ sig)) (V (main_arg1 : DevRef τ sig)) := by
  after_results_simp
  simp only [TRef.ofBuf_toBuf, ofBuf_v22, ofBuf_arg0, ofBuf_arg1, toBuf_v6, ofBuf_v25, ofBuf_v27, ofBuf_v24, toBuf_v26, toBuf_v28]
  unfold stateR takeR wrapR cntR cdfR sumR ptsR maskR
  rfl
theorem weight_eq : after ops V (main_v28 : DevRef τ sig) = weightR (V (main_arg1 : DevRef τ sig)) := by
  after_results_simp
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.forall_cons, List.Forall]
  simp

/-- The reference's run: both arguments as they began, both results as stated, every counter at zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v26) = stateR (m ((c.tc : Thread nD τ).loc main_arg0)) (m ((c.tc : Thread nD τ).loc main_arg1))
      ∧ r.2.mem ((c.tc : Thread nD τ).loc main_v28) = weightR (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c =>
    ⟨(h c main_v26).trans (state_eq _), (h c main_v28).trans (weight_eq _), (h c main_arg0).trans (arg0_eq _), (h c main_arg1).trans (arg1_eq _)⟩,
    Idealize.ShloMosaic.sem_eq_zero_of_no_sems (by decide) r.2⟩)
    (run_seq scopedRefs_eq scopedSems_eq defs main (fun _ => ops) main_eq (fun _ => ops_sub) m ρ)

end Cert.Proof.Resample.Spec

end
-- ==== Proof.Frames.lean ====
/-
  The frames: the program's run over any floats, read at the words and at the extended reals; the reference's run.
-/
module

public import proofs.«01_k».proof.Proof.Values
public import proofs.«01_k».proof.Proof.Ref
public import proofs.«01_k».proof.Proof.Gen.Kernel

@[expose] public section

noncomputable section

namespace Cert.Proof.Resample

open Idealize.ShloMosaic Idealize.SL.Sem

theorem frame_kernel : Cert.quiescent_Kernel (hKernel := Cert.Kernel.Gen.facts) := fun m ρ _ =>
  (θ_run Cert.KernelIdeal.defs _ _).mono (fun _ h => ⟨fun c => ⟨(h.1 c).2.2.1, (h.1 c).2.2.2⟩, h.2⟩) (run_main (F := Bits) m ρ)

theorem frame_kernelIdeal : Cert.quiescent_KernelIdeal (hKernelIdeal := Cert.KernelIdeal.Gen.facts) := fun m ρ _ =>
  (θ_run Cert.KernelIdeal.defs _ _).mono (fun _ h => ⟨fun c => ⟨(h.1 c).2.2.1, (h.1 c).2.2.2⟩, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun _ h => ⟨fun c => ⟨(h.1 c).2.2.1, (h.1 c).2.2.2⟩, h.2⟩) (Spec.run_main (F := Ideal) m ρ)

end Cert.Proof.Resample

end
-- ==== Proof.Arrays.lean ====
/-
  The reference's whole-array operations read at one index, at any extents: the running sum of a row of real numbers, the
  count of a mask along the last of three axes, the conjunction along a last axis of one element, the gather of one state
  per batch and position, and what the weights' sum of squares says of a row.
-/
module

public import Idealize.ShloMosaic.Lib.Routing.Ops
public import Idealize.ShloMosaic.Lib.Pointwise
public import Idealize.ShloMosaic.Lib.ReduceAll

@[expose] public section

noncomputable section

namespace Cert.Proof.Resample.Arr

open Idealize.ShloMosaic hiding ix0 ix1 ix2 ix3
open Idealize.ShloMosaic.ValueIdx Idealize.ShloMosaic.Routing

/-! ## The running sum -/

/-- A left fold of addition over terms that are real is the real sum. -/
theorem foldl_real {ι : Type} (g : ι → EReal) (f : ι → ℝ) (l : List ι) (hg : ∀ a ∈ l, g a = ((f a : ℝ) : EReal)) :
    ∀ z : ℝ, l.foldl (fun r a => r + g a) ((z : ℝ) : EReal) = ((z + (l.map f).sum : ℝ) : EReal) := by
  induction l with
  | nil => exact fun z => by simp
  | cons a l ih =>
    intro z
    rw [List.foldl_cons, hg a List.mem_cons_self, ← EReal.coe_add, ih (fun b hb => hg b (List.mem_cons_of_mem _ hb)), List.map_cons,
      List.sum_cons, add_assoc]

/-- A list of the values of `Fin M` in order sums to the sum over the range. -/
theorem sum_finRange (M : ℕ) (f : ℕ → ℝ) : ((List.finRange M).map fun n => f n.val).sum = ∑ i ∈ Finset.range M, f i := by
  rw [← Fin.sum_univ_eq_sum_range, Fin.sum_univ_def]

/-- Of a window of `K + 1` positions ending at `j`, those before the row's start contribute nothing. -/
theorem window_sum (f : ℕ → ℝ) (K j : ℕ) (hj : j ≤ K) :
    ∑ w ∈ Finset.range (K + 1), (if K ≤ j + w then f (j + w - K) else 0) = ∑ i ∈ Finset.range (j + 1), f i := by
  obtain ⟨d, rfl⟩ := Nat.exists_eq_add_of_le hj
  rw [show j + d + 1 = d + (j + 1) by omega, Finset.sum_range_add, Finset.sum_eq_zero, zero_add]
  · refine Finset.sum_congr rfl fun i _ => ?_
    rw [if_pos (by omega), show j + (d + i) - (j + d) = i by omega]
  · intro w hw
    have := Finset.mem_range.1 hw
    exact if_neg (by omega)

/-- The running sum along the second axis: where row `p` holds the reals `f`, entry `j` of it holds their sum up to `j`. -/
theorem cumsum {B N K : ℕ} (hN : K + 1 = N) (x : (shape2 B N).Idx → EReal) (f : ℕ → ℝ) (p : Fin B)
    (hx : ∀ i : Fin N, x (ix2 p i) = ((f i.val : ℝ) : EReal)) (init : shape0.Idx → EReal) (hinit : init ix0 = ((0 : ℝ) : EReal))
    (h : (shape2 B N).ReduceWindows (![1, N] : Fin 2 → ℕ) ![1, 1] ![0, K] ![0, 0] (shape2 B N)) (hu : 0 < shape0.numel) (j : Fin N) :
    Host.reduceWindow (· + ·) ![1, N] ![1, 1] ![0, K] ![0, 0] x init h hu (ix2 p j) = ((∑ i ∈ Finset.range (j.val + 1), f i : ℝ) : EReal) := by
  subst hN
  have hv : init (Shape.Idx.first hu) = ((0 : ℝ) : EReal) := (congrArg init (eq_ix0 _)).trans hinit
  have hj := j.isLt
  unfold Host.reduceWindow
  dsimp only
  rw [hv]
  refine (foldl_real _ (fun n => (fun w => if K ≤ j.val + w then f (j.val + w - K) else 0) n.val) _ (fun n _ => ?_) 0).trans ?_
  · have c0 : ((shape2 1 (K + 1)).rowMajor.symm n 0).val = 0 := by rw [symm2]; rfl
    have c1 : ((shape2 1 (K + 1)).rowMajor.symm n 1).val = n.val := by rw [symm2]; rfl
    have hn : n.val < K + 1 := (n.cast (numel2 _)).isLt
    dsimp only
    by_cases hK : K ≤ j.val + n.val
    · have e : ∀ q : Fin (K + 1), q.val = j.val + n.val - K → x (ix2 p q) = ((f (j.val + n.val - K) : ℝ) : EReal) := fun q hq => by
        rw [hx, hq]
      rw [if_pos hK, ← e ⟨j.val + n.val - K, by omega⟩ rfl, dif_pos]
      · refine congrArg x (funext fun a => Fin.ext ?_)
        match a with
        | ⟨0, _⟩ =>
          show p.val * 1 + ((shape2 1 (K + 1)).rowMajor.symm n 0).val - 0 = p.val
          rw [c0]; omega
        | ⟨1, _⟩ =>
          show j.val * 1 + ((shape2 1 (K + 1)).rowMajor.symm n 1).val - K = j.val + n.val - K
          rw [c1]; omega
      · intro a
        match a with
        | ⟨0, _⟩ =>
          show 0 ≤ p.val * 1 + ((shape2 1 (K + 1)).rowMajor.symm n 0).val ∧ p.val * 1 + ((shape2 1 (K + 1)).rowMajor.symm n 0).val - 0 < B
          rw [c0]; have := p.isLt; omega
        | ⟨1, _⟩ =>
          show K ≤ j.val * 1 + ((shape2 1 (K + 1)).rowMajor.symm n 1).val ∧ j.val * 1 + ((shape2 1 (K + 1)).rowMajor.symm n 1).val - K < K + 1
          rw [c1]; omega
    · rw [if_neg hK, dif_neg]
      intro hin
      have h1 := hin 1
      change K ≤ j.val * 1 + ((shape2 1 (K + 1)).rowMajor.symm n 1).val ∧ _ at h1
      rw [c1] at h1
      omega
  · rw [sum_finRange _ (fun w => if K ≤ j.val + w then f (j.val + w - K) else 0), zero_add]
    exact congrArg (fun r : ℝ => (r : EReal)) ((congrArg (fun M => ∑ w ∈ Finset.range M, (if K ≤ j.val + w then f (j.val + w - K) else 0)) (numel2 (K + 1))).trans
      (window_sum f K j.val (by omega)))

/-- The same of the operation that sums a window. -/
theorem cumsum_f {B N K : ℕ} (hN : K + 1 = N) (x : FVec Ideal (shape2 B N) .f32) (f : ℕ → ℝ) (p : Fin B)
    (hx : ∀ i : Fin N, x (ix2 p i) = ((f i.val : ℝ) : EReal)) (v : FVec Ideal shape0 .f32) (hv : v ix0 = ((0 : ℝ) : EReal))
    (h : (shape2 B N).ReduceWindows (![1, N] : Fin 2 → ℕ) ![1, 1] ![0, K] ![0, 0] (shape2 B N)) (hu : 0 < shape0.numel) (j : Fin N) :
    Host.reduceWindowAdd (F := Ideal) (![1, N] : Fin 2 → ℕ) ![1, 1] ![0, K] ![0, 0] x v h hu (ix2 p j) = ((∑ i ∈ Finset.range (j.val + 1), f i : ℝ) : EReal) :=
  cumsum hN x f p hx (fun _ => v (Shape.Idx.first hu)) ((congrArg v (eq_ix0 _)).trans hv) h (by decide) j

/-! ## Counts and conjunctions along the last of three axes -/

theorem count_last {a b n : ℕ} (hn : n < 2 ^ 32) (msk : IVec (shape3 a b n) 1) (hw : 1 < 32) (h : (shape3 a b n).ReducesTo [2] (shape2 a b))
    (hu : 0 < shape0.numel) (p : Fin a) (q : Fin b) (Q : ℕ → Prop) [DecidablePred Q] (hQ : ∀ k : Fin n, msk (ix3 p q k) = 1#1 ↔ Q k.val) :
    (Host.reduce IntOp.addi (extui 32 msk hw) (constantI shape0 32 0#32) h hu (ix2 p q)).toNat = ((Finset.range n).filter Q).card := by
  have hs : ∑ k : Fin n, ((extui 32 msk hw) (ix3 p q k)).toNat = ((Finset.range n).filter Q).card := by
    rw [Finset.card_filter, ← Fin.sum_univ_eq_sum_range]
    refine Finset.sum_congr rfl fun k _ => ?_
    show ((msk (ix3 p q k)).setWidth 32).toNat = _
    rw [StableHlo.Predicate.toNat_setWidth_bit]
    exact if_congr (hQ k) rfl rfl
  have hc : ((Finset.range n).filter Q).card ≤ n := (Finset.card_filter_le _ _).trans (Finset.card_range n).le
  rw [Host.reduce_eq_fold, Shape.ReducesTo.fold_fiber_r3_a2]
  refine (StableHlo.Predicate.toNat_fold_addi _ _ ?_).trans hs
  exact lt_of_le_of_lt hs.le (by omega)

theorem all_last {a b : ℕ} (x : IVec (shape3 a b 1) 1) (h : (shape3 a b 1).ReducesTo [2] (shape2 a b))
    (hu : 0 < shape0.numel) (p : Fin a) (q : Fin b) (hx : x (ix3 p q 0) = 1#1) :
    Host.reduce IntOp.andi x (constantI shape0 1 1#1) h hu (ix2 p q) = 1#1 := by
  rw [Host.reduce_eq_fold, Shape.ReducesTo.fold_fiber_r3_a2, Finset.univ_unique, Finset.fold_singleton]
  show IntOp.andi (x (ix3 p q 0)) 1#1 = 1#1
  rw [hx]; decide

/-! ## The gather -/

/-- One index per batch and position, looked up along the middle axis of the batch's states. -/
theorem gather_mid {α : Type} {B N D : ℕ} (d : GatherDims (shape3 B N D) (shape3 B N 1) (shape3 B N D)) (ho : d.offsetDims = [2])
    (hc : d.collapsedSliceDims = [1]) (hb : d.operandBatchingDims = [0]) (hsb : d.startIndicesBatchingDims = [0]) (hm : d.startIndexMap = [1])
    (hv : d.indexVectorDim = 2) (x : (shape3 B N D).Idx → α) (idx : IVec (shape3 B N 1) 32) (p : Fin B) (q : Fin N) (r : Fin D) (J : Fin N)
    (hJ : idx (ix3 p q (0 : Fin 1)) = BitVec.ofNat 32 J.val) (hN : N < 2 ^ 31) :
    Host.gather d x idx (ix3 p q r) = x (ix3 p J r) := by
  obtain ⟨od, cd, ob, sb, sm, iv, sl, wf⟩ := d
  dsimp only at ho hc hb hsb hm hv
  subst ho hc hb hsb hm hv
  have hsl : sl 1 = 1 := GatherDims.slice_collapsed ⟨_, _, _, _, _, _, sl, wf⟩ 1 (List.mem_singleton.2 rfl)
  unfold Host.gather
  refine congrArg x (funext fun a => Fin.ext ?_)
  match a with
  | ⟨0, _⟩ => exact (Nat.zero_add _).trans rfl
  | ⟨1, _⟩ =>
    refine Eq.trans (b := min (idx (ix3 p q (0 : Fin 1))).toInt.toNat (N - sl 1)) ?_ ?_
    · refine congrArg (fun i => min (idx i).toInt.toNat (N - sl 1)) (funext fun c => Fin.ext ?_)
      match c with
      | ⟨0, _⟩ => rfl
      | ⟨1, _⟩ => rfl
      | ⟨2, _⟩ => rfl
    · have := J.isLt
      rw [hJ, StableHlo.Predicate.toInt_ofNat_small _ (by omega), hsl]
      show min ((J.val : ℤ)).toNat (N - 1) = J.val
      omega
  | ⟨2, _⟩ => exact (Nat.zero_add _).trans rfl

end Cert.Proof.Resample.Arr

end
-- ==== Proof.Count.lean ====
/-
  The kernel counts, for a cumulative weight `t` in 8192ths, the output positions `n` whose midpoint `2 n + 1` is at most `t`:
  it divides, truncates, and corrects the quotient by comparisons. Over the extended reals the corrected quotient is the
  floor of `(t - 1) / 2`, and the count the floor of `(t + 1) / 2`.
-/
module

public import proofs.«01_k».proof.Proof.Model

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

/-! ## The constants -/

theorem c_one : Ideal.ofBits .f32 0x3F800000#32 = ((1 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_8192 : Ideal.ofBits .f32 0x46000000#32 = ((8192 : ℝ) : EReal) := by
  simp [Ideal.ofBits, Ideal.ieee, -EReal.coe_mul]; norm_num
theorem c_4096 : Ideal.ofBits .f32 0x45800000#32 = ((4096 : ℝ) : EReal) := by
  simp [Ideal.ofBits, Ideal.ieee, -EReal.coe_mul]; norm_num
theorem c_2048 : Ideal.ofBits .f32 0x45000000#32 = ((2048 : ℝ) : EReal) := by
  simp [Ideal.ofBits, Ideal.ieee, -EReal.coe_mul]; norm_num
theorem c_zero : Ideal.ofBits .f32 0x00000000#32 = ((0 : ℝ) : EReal) := by
  simp [Ideal.ofBits, Ideal.ieee, -EReal.coe_mul]

/-! ## The corrected quotient, one lane -/

/-- `2 z + 1` of a word `z`, as the kernel computes it. -/
def dbl (z : BitVec 32) : EReal := Ideal.ofBits .f32 0x40000000#32 * ((z.toInt : ℝ) : EReal) + Ideal.ofBits .f32 0x3F800000#32

theorem toInt_ofInt_small {q : ℤ} (h1 : -100000 ≤ q) (h2 : q ≤ 100000) : (BitVec.ofInt 32 q).toInt = q := by
  rw [BitVec.toInt_ofInt]
  exact Int.bmod_eq_of_le (by norm_num; omega) (by norm_num; omega)

theorem dbl_ofInt {q : ℤ} (h1 : -100000 ≤ q) (h2 : q ≤ 100000) : dbl (BitVec.ofInt 32 q) = ((2 * q + 1 : ℝ) : EReal) := by
  unfold dbl
  rw [toInt_ofInt_small h1 h2, c_two, c_one, ← EReal.coe_mul, ← EReal.coe_add]

/-- A correction downwards, when `2 z + 1` exceeds `t`; -/
def down (t : EReal) (z : BitVec 32) : BitVec 32 := IntOp.subi z ((Ideal.cmp .ogt (dbl z) t).setWidth 32)
/-- a correction upwards, when the next word's does not. -/
def up (t : EReal) (z : BitVec 32) : BitVec 32 := IntOp.addi z ((Ideal.cmp .ole (dbl (IntOp.addi z 1#32)) t).setWidth 32)

theorem down_ofInt (t : ℝ) {q : ℤ} (h1 : -10000 ≤ q) (h2 : q ≤ 10000) :
    down (t : EReal) (BitVec.ofInt 32 q) = BitVec.ofInt 32 (if t < 2 * q + 1 then q - 1 else q) := by
  unfold down
  rw [dbl_ofInt (by omega) (by omega)]
  simp only [Ideal.cmp, EReal.coe_lt_coe_iff]
  by_cases h : t < 2 * q + 1
  · simp only [h, decide_true, if_true]
    show BitVec.ofInt 32 q - _ = _
    apply BitVec.eq_of_toInt_eq
    have e1 : (BitVec.setWidth 32 (BitVec.ofBool true)).toInt = 1 := by decide
    rw [BitVec.toInt_sub, e1, toInt_ofInt_small (by omega) (by omega), toInt_ofInt_small (by omega) (by omega)]
    exact Int.bmod_eq_of_le (by norm_num; omega) (by norm_num; omega)
  · simp only [h, decide_false, if_false]
    show BitVec.ofInt 32 q - 0#32 = _
    rw [BitVec.sub_zero]

theorem up_ofInt (t : ℝ) {q : ℤ} (h1 : -10000 ≤ q) (h2 : q ≤ 10000) :
    up (t : EReal) (BitVec.ofInt 32 q) = BitVec.ofInt 32 (if 2 * (q + 1) + 1 ≤ t then q + 1 else q) := by
  unfold up
  have e : IntOp.addi (BitVec.ofInt 32 q) 1#32 = BitVec.ofInt 32 (q + 1) := by
    show BitVec.ofInt 32 q + _ = _
    rw [BitVec.ofInt_add]; rfl
  rw [e, dbl_ofInt (by omega) (by omega)]
  simp only [Ideal.cmp, EReal.coe_le_coe_iff]
  push_cast
  by_cases h : 2 * ((q : ℝ) + 1) + 1 ≤ t
  · simp only [h, decide_true, if_true]
    exact e
  · simp only [h, decide_false, if_false]
    show BitVec.ofInt 32 q + 0#32 = _
    rw [BitVec.add_zero]

theorem first_quot {t : ℝ} (h0 : 0 ≤ t) (h1 : t ≤ 8192) :
    Ideal.fptosi 32 ((((t : ℝ) : EReal) - Ideal.ofBits .f32 0x3F800000#32) * Ideal.ofBits .f32 0x3F000000#32 : EReal)
      = BitVec.ofInt 32 (if 1 ≤ t then ⌊(t - 1) / 2⌋ else 0) := by
  rw [c_one, c_half, ← EReal.coe_sub, ← EReal.coe_mul]
  unfold Ideal.fptosi
  congr 1
  have e : (t - 1) * (1 / 2) = (t - 1) / 2 := by ring
  rw [e, Ideal.toIntClamped_coe]
  by_cases h : 1 ≤ t
  · rw [if_pos (by linarith), if_pos h]
    have g1 : 0 ≤ ⌊(t - 1) / 2⌋ := Int.floor_nonneg.2 (by linarith)
    have g2 : ⌊(t - 1) / 2⌋ ≤ 4096 := by
      have : (⌊(t - 1) / 2⌋ : ℝ) ≤ 4096 := (Int.floor_le _).trans (by linarith)
      exact_mod_cast this
    norm_num; omega
  · have hc : ⌈(t - 1) / 2⌉ = 0 := by
      rw [Int.ceil_eq_iff]; push_cast; constructor <;> linarith
    rw [if_neg (by linarith), if_neg h, hc]
    norm_num

/-- The corrected quotient is the floor. -/
theorem quot_eq {t : ℝ} (h0 : 0 ≤ t) (h1 : t ≤ 8192) :
    up (t : EReal) (down (t : EReal) (down (t : EReal)
      (Ideal.fptosi 32 ((((t : ℝ) : EReal) - Ideal.ofBits .f32 0x3F800000#32) * Ideal.ofBits .f32 0x3F000000#32 : EReal))))
      = BitVec.ofInt 32 ⌊(t - 1) / 2⌋ := by
  rw [first_quot h0 h1]
  have f1 := Int.floor_le ((t - 1) / 2)
  have f2 := Int.lt_floor_add_one ((t - 1) / 2)
  by_cases h : 1 ≤ t
  · have g1 : 0 ≤ ⌊(t - 1) / 2⌋ := Int.floor_nonneg.2 (by linarith)
    have g2 : ⌊(t - 1) / 2⌋ ≤ 4096 := by
      have : (⌊(t - 1) / 2⌋ : ℝ) ≤ 4096 := f1.trans (by linarith)
      exact_mod_cast this
    rw [if_pos h, down_ofInt t (by omega) (by omega), if_neg (by linarith), down_ofInt t (by omega) (by omega), if_neg (by linarith),
      up_ofInt t (by omega) (by omega), if_neg (by linarith)]
  · have hf : ⌊(t - 1) / 2⌋ = -1 := by
      rw [Int.floor_eq_iff]; push_cast; constructor <;> linarith
    rw [if_neg h, hf, down_ofInt t (by omega) (by omega), if_pos (by push_cast; linarith), down_ofInt t (by omega) (by omega),
      if_neg (by push_cast; linarith), up_ofInt t (by omega) (by omega), if_neg (by push_cast; linarith)]
    rfl

/-! ## The counts -/

/-- How many positions `n` have `2 n + 1` at most `t`. -/
def cnt (t : ℝ) : ℕ := ⌊(t + 1) / 2⌋₊

theorem lt_cnt {t : ℝ} (h0 : 0 ≤ t) (n : ℕ) : n < cnt t ↔ 2 * (n : ℝ) + 1 ≤ t := by
  unfold cnt
  rw [← Nat.succ_le_iff, Nat.le_floor_iff (by linarith)]
  push_cast
  constructor <;> intro h <;> linarith

theorem cnt_le {t : ℝ} (h0 : 0 ≤ t) (h1 : t ≤ 8192) : cnt t ≤ 4096 := by
  by_contra hc
  have := (lt_cnt h0 4096).1 (by omega)
  norm_num at this; linarith

theorem cnt_mono {t u : ℝ} (h0 : 0 ≤ t) (h : t ≤ u) : cnt t ≤ cnt u := Nat.floor_le_floor (by linarith)

theorem cnt_zero : cnt 0 = 0 := by unfold cnt; norm_num

theorem clamp_eq {t : ℝ} (h0 : 0 ≤ t) (h1 : t ≤ 8192) :
    (IntOp.minsi 4096#32 (IntOp.maxsi 0#32 (IntOp.addi (up (t : EReal) (BitVec.ofInt 32 ⌊(t - 1) / 2⌋)) 1#32))).toNat = cnt t := by
  have f1 := Int.floor_le ((t - 1) / 2)
  have f2 := Int.lt_floor_add_one ((t - 1) / 2)
  have g1 : -1 ≤ ⌊(t - 1) / 2⌋ := by rw [Int.le_floor]; push_cast; linarith
  have g2 : ⌊(t - 1) / 2⌋ ≤ 4096 := by
    have : (⌊(t - 1) / 2⌋ : ℝ) ≤ 4096 := f1.trans (by linarith)
    exact_mod_cast this
  have e : IntOp.addi (BitVec.ofInt 32 ⌊(t - 1) / 2⌋) 1#32 = BitVec.ofInt 32 (⌊(t - 1) / 2⌋ + 1) := by
    show BitVec.ofInt 32 _ + _ = _
    rw [BitVec.ofInt_add]; rfl
  rw [up_ofInt t (by omega) (by omega), if_neg (by linarith), e, minsi_small (by decide) (maxsi_zero_small _), maxsi_zero_toNat,
    toInt_ofInt_small (by omega) (by omega)]
  have hk : (⌊(t - 1) / 2⌋ + 1).toNat = cnt t := by
    have : (t + 1) / 2 = (t - 1) / 2 + 1 := by ring
    unfold cnt
    rw [this, ← Int.floor_add_one]
    rfl
  rw [hk]
  have := cnt_le h0 h1
  show min 4096 _ = _
  omega

theorem pay13_eq (v : FVec Ideal S16 .f32) (i : S16.Idx) {t : ℝ} (hv : v i = (t : EReal)) (h0 : 0 ≤ t) (h1 : t ≤ 8192) :
    k0_pay13 v i = BitVec.ofInt 32 ⌊(t - 1) / 2⌋ := by
  refine Eq.trans ?_ (quot_eq h0 h1)
  rw [← hv]
  rfl

theorem pay18_eq (v : FVec Ideal S16 .f32) (i : S16.Idx) {t : ℝ} (hv : v i = (t : EReal)) (h0 : 0 ≤ t) (h1 : t ≤ 8192) :
    (k0_pay18 v (k0_pay13 v) k0_pay14 i).toNat = cnt t := by
  refine Eq.trans ?_ (clamp_eq h0 h1)
  rw [← pay13_eq v i hv h0 h1, ← hv]
  rfl

theorem pay12_eq (v : FVec Ideal S16 .f32) (i : S16.Idx) {t : ℝ} (hv : v i = (t : EReal)) (h0 : 0 ≤ t) (h1 : t ≤ 8192) :
    (k0_pay12 v (k0_pay10 v) (k0_pay11 v) i).toNat = cnt t := by
  refine Eq.trans ?_ (clamp_eq h0 h1)
  rw [← pay13_eq v i hv h0 h1, ← hv]
  rfl

end Cert.Proof.Resample
-- ==== Proof.Index.lean ====
/-
  The index buffer counts. When a row's cumulative weights are real, not decreasing, and end at one, the scatter leaves at
  each place the number of the weight whose interval of output positions starts there, and the running maximum at output
  position `n` is the number of cumulative weights below the position's midpoint `(n + 1/2) / 4096`.
-/
module

public import proofs.«01_k».proof.Proof.Count

@[expose] public section

noncomputable section

namespace Cert.Proof.Resample

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

-- the kernel's memrefs, spelt as the body table passes them
local notation "stW" => (Memref.whole Cert.KernelIdeal.main_v12_scv : Memref Cert.KernelIdeal.sig Kind.scVector Space.hbm Cert.KernelIdeal.S8192x32x128 EltTy.f32)
local notation "csW" => (Memref.whole Cert.KernelIdeal.main_v13_scv : Memref Cert.KernelIdeal.sig Kind.scVector Space.hbm Cert.KernelIdeal.S256x32x128 EltTy.f32)
local notation "wtW" => (Memref.whole Cert.KernelIdeal.main_v14_scv : Memref Cert.KernelIdeal.sig Kind.scVector Space.hbm Cert.KernelIdeal.S256x32x128 EltTy.f32)
local notation "mkW" => (Memref.whole Cert.KernelIdeal.main_v6_scv : Memref Cert.KernelIdeal.sig Kind.scVector Space.hbm Cert.KernelIdeal.S256 EltTy.i32)
local notation "osW" => (Memref.whole Cert.KernelIdeal.main_v15_0_scv : Memref Cert.KernelIdeal.sig Kind.scVector Space.hbm Cert.KernelIdeal.S8192x32x128 EltTy.f32)
local notation "owW" => (Memref.whole Cert.KernelIdeal.main_v15_1_scv : Memref Cert.KernelIdeal.sig Kind.scVector Space.hbm Cert.KernelIdeal.S256x32x128 EltTy.f32)
local notation "cB" => (Memref.whole Cert.KernelIdeal.cc0_scratch0 : Memref Cert.KernelIdeal.sig Kind.scVector Space.vmem Cert.KernelIdeal.S32x128 EltTy.f32)
local notation "ixB" => (Memref.whole Cert.KernelIdeal.cc0_scratch1 : Memref Cert.KernelIdeal.sig Kind.scVector Space.vmem Cert.KernelIdeal.S4096 EltTy.i32)
local notation "rwB" => (Memref.whole Cert.KernelIdeal.cc0_scratch2 : Memref Cert.KernelIdeal.sig Kind.scVector Space.vmem Cert.KernelIdeal.S32x128 EltTy.f32)
local notation "mkB" => (Memref.whole Cert.KernelIdeal.cc0_scratch3 : Memref Cert.KernelIdeal.sig Kind.scVector Space.vmem Cert.KernelIdeal.S256 EltTy.i32)
local notation "rB" => (Memref.whole Cert.KernelIdeal.cc0_scratch4 : Memref Cert.KernelIdeal.sig Kind.scVector Space.vmem Cert.KernelIdeal.S8x32x128 EltTy.f32)
local notation "oB" => (Memref.whole Cert.KernelIdeal.cc0_scratch5 : Memref Cert.KernelIdeal.sig Kind.scVector Space.vmem Cert.KernelIdeal.S8x32x128 EltTy.f32)

local notation "𝕄" => MT nD τ sig (HIx 1) (Elt F) ℕ UU ℕ

/-- Element `j` of a row, in row-major order. -/
def cellAt (j : ℕ) : S32x128.Idx := fun a => ⟨(![j / 128, j % 128] : Fin 2 → ℕ) a % S32x128.size a, Nat.mod_lt _ (by fin_cases a <;> decide)⟩

theorem cellAt_ext {j : ℕ} (hj : j < 4096) (i : S32x128.Idx) (h0 : (i 0).val = j / 128) (h1 : (i 1).val = j % 128) : i = cellAt j :=
  funext fun a => Fin.ext (by
    fin_cases a
    · show (i 0).val = j / 128 % 32
      rw [h0, Nat.mod_eq_of_lt (by omega)]
    · show (i 1).val = j % 128 % 128
      rw [h1, Nat.mod_mod])

/-- The row `c` holds the real numbers `C`, which do not decrease and end at one. -/
structure IsCdf (c : Vec Ideal S32x128 .f32) (C : ℕ → ℝ) : Prop where
  val : ∀ j < 4096, c (cellAt j) = ((C j : ℝ) : EReal)
  nonneg : ∀ j < 4096, 0 ≤ C j
  mono : ∀ i j, i ≤ j → j < 4096 → C i ≤ C j
  last : C 4095 = 1

namespace IsCdf

variable {c : Vec Ideal S32x128 .f32} {C : ℕ → ℝ} (h : IsCdf c C)
include h

theorem le_one {j : ℕ} (hj : j < 4096) : C j ≤ 1 := h.last ▸ h.mono j 4095 (by omega) (by decide)

/-! ## The lanes of a trip -/

end IsCdf

theorem cast16 : ∀ y : S16.Idx, ∀ a, (Shape.reshapeEquiv shapeCasts_S1x16_S16 y a).val = (![0, (y 0).val] : Fin 2 → ℕ) a := by
  decide +kernel

theorem prev_idx : ∀ k : Fin k0_t4_loop.trips, ∀ y : S16.Idx,
    (k0_pay7 (k0_pay4 lanes 0#32 1#32 k) 0#32 y).toNat = (16 * k.val + (y 0).val - 1) / 128
    ∧ (k0_pay8 (k0_pay4 lanes 0#32 1#32 k) 0#32 y).toNat = (16 * k.val + (y 0).val - 1) % 128
    ∧ k0_pay5 lanes 0#32 1#32 k y = (if 16 * k.val + (y 0).val = 0 then 0#1 else 1#1) := by
  decide +kernel

theorem at_ix1 (p : IVec S16 32) (hp : ∀ a x, ((![p] : Fin 1 → IVec S16 32) a x).toNat < S4096.size a) (x : S16.Idx) (m : ℕ) (hm : m < 4096) :
    idxAt (s := S4096) ![p] hp x = ix1 m ↔ (p x).toNat = m := by
  constructor
  · intro hh
    have e : (idxAt (s := S4096) ![p] hp x 0).val = (ix1 m 0).val := by rw [hh]
    rw [ix1_val hm] at e
    exact e
  · intro hh
    refine funext fun a => Fin.ext ?_
    fin_cases a
    show (p x).toNat = m % 4096
    rw [hh, Nat.mod_eq_of_lt hm]

/-- The cumulative weight before weight `j`, in 8192ths. -/
def before (C : ℕ → ℝ) (j : ℕ) : ℝ := if j = 0 then 0 else C (j - 1) * 8192

namespace IsCdf

variable {c : Vec Ideal S32x128 .f32} {C : ℕ → ℝ} (h : IsCdf c C)
include h

theorem cur_eq (k : Fin k0_t4_loop.trips) (y : S16.Idx) : curOf c k y = ((C (16 * k.val + (y 0).val) * 8192 : ℝ) : EReal) := by
  have hk : k.val < 256 := k.isLt
  have hy : (y 0).val < 16 := (y 0).isLt
  have e : VecWindow.window c (k0_off6 k) S1x16.size (k0_off6_inb k) (Shape.reshapeEquiv shapeCasts_S1x16_S16 y) = c (cellAt (16 * k.val + (y 0).val)) := by
    refine congrArg c (cellAt_ext (by omega) _ ?_ ?_)
    · show k0_off6 k 0 + 1 * (Shape.reshapeEquiv shapeCasts_S1x16_S16 y 0).val = _
      rw [off6_eq, cast16]
      show k.val / 8 + 1 * 0 = _
      omega
    · show k0_off6 k 1 + 1 * (Shape.reshapeEquiv shapeCasts_S1x16_S16 y 1).val = _
      rw [off6_eq, cast16]
      show k.val % 8 * 16 + 1 * (y 0).val = _
      omega
  show (VecWindow.window c (k0_off6 k) S1x16.size (k0_off6_inb k) (Shape.reshapeEquiv shapeCasts_S1x16_S16 y) * Ideal.ofBits .f32 0x46000000#32 : EReal) = _
  rw [e, h.val _ (by omega), c_8192, ← EReal.coe_mul]

theorem prev_eq (k : Fin k0_t4_loop.trips) (y : S16.Idx) : prevOf c k y = ((before C (16 * k.val + (y 0).val) : ℝ) : EReal) := by
  have hk : k.val < 256 := k.isLt
  have hy : (y 0).val < 16 := (y 0).isLt
  obtain ⟨p7, p8, p5⟩ := prev_idx k y
  have e : loadIdx (F := Ideal) (e := .f32) c ![k0_pay7 (k0_pay4 lanes 0#32 1#32 k) 0#32, k0_pay8 (k0_pay4 lanes 0#32 1#32 k) 0#32]
      (k0_idx2_inb 1#32 _ _ (chk2_holds 1#32 k) (by decide)) y = c (cellAt (16 * k.val + (y 0).val - 1)) :=
    congrArg c (cellAt_ext (by omega) _ p7 p8)
  show (if k0_pay5 lanes 0#32 1#32 k y = 1#1 then (loadIdx (F := Ideal) (e := .f32) c _ _ y * Ideal.ofBits .f32 0x46000000#32 : EReal) else Ideal.ofBits .f32 0x00000000#32) = _
  rw [e, p5]
  unfold before
  by_cases h0 : 16 * k.val + (y 0).val = 0
  · rw [if_pos h0, if_pos h0, if_neg (by decide), c_zero]
  · rw [if_neg h0, if_neg h0, if_pos rfl, h.val _ (by omega), c_8192, ← EReal.coe_mul]

theorem cur_range {j : ℕ} (hj : j < 4096) : 0 ≤ C j * 8192 ∧ C j * 8192 ≤ 8192 :=
  ⟨mul_nonneg (h.nonneg j hj) (by norm_num), by have := h.le_one hj; linarith⟩

theorem before_range {j : ℕ} (hj : j < 4096) : 0 ≤ before C j ∧ before C j ≤ 8192 := by
  unfold before
  by_cases h0 : j = 0
  · rw [if_pos h0]; norm_num
  · rw [if_neg h0]; exact h.cur_range (by omega)

/-! ## The scatter -/

theorem curCount_eq (k : Fin k0_t4_loop.trips) (y : S16.Idx) : (curCount c k y).toNat = cnt (C (16 * k.val + (y 0).val) * 8192) := by
  have hk : k.val < 256 := k.isLt
  have hy : (y 0).val < 16 := (y 0).isLt
  have r := h.cur_range (j := 16 * k.val + (y 0).val) (by omega)
  exact pay12_eq _ y (h.cur_eq k y) r.1 r.2

theorem prevCount_eq (k : Fin k0_t4_loop.trips) (y : S16.Idx) : (prevCount c k y).toNat = cnt (before C (16 * k.val + (y 0).val)) := by
  have hk : k.val < 256 := k.isLt
  have hy : (y 0).val < 16 := (y 0).isLt
  have r := h.before_range (j := 16 * k.val + (y 0).val) (by omega)
  exact pay18_eq _ y (h.prev_eq k y) r.1 r.2

theorem act_iff (k : Fin k0_t4_loop.trips) (y : S16.Idx) :
    actOf c k y = 1 ↔ cnt (before C (16 * k.val + (y 0).val)) < cnt (C (16 * k.val + (y 0).val) * 8192) := by
  have hk : k.val < 256 := k.isLt
  have hy : (y 0).val < 16 := (y 0).isLt
  have r := h.before_range (j := 16 * k.val + (y 0).val) (by omega)
  have r' := h.cur_range (j := 16 * k.val + (y 0).val) (by omega)
  have b := cnt_le r.1 r.2
  have b' := cnt_le r'.1 r'.2
  rw [← h.curCount_eq, ← h.prevCount_eq] at *
  show BitVec.ofBool ((prevCount c k y).slt (curCount c k y)) = 1 ↔ _
  rw [slt_small (by omega) (by omega)]
  by_cases hc : (prevCount c k y).toNat < (curCount c k y).toNat
  · simp [hc]
  · simp [hc]

theorem pos_eq (k : Fin k0_t4_loop.trips) (y : S16.Idx) (ha : actOf c k y = 1) : (posOf c k y).toNat = cnt (before C (16 * k.val + (y 0).val)) := by
  have hk : k.val < 256 := k.isLt
  have hy : (y 0).val < 16 := (y 0).isLt
  have r' := h.cur_range (j := 16 * k.val + (y 0).val) (by omega)
  have b' := cnt_le r'.1 r'.2
  have := (h.act_iff k y).1 ha
  have e : (posOf c k y).toNat = min (prevCount c k y).toNat 4095 := pay20_toNat _ _ _ y
  rw [e, h.prevCount_eq]
  omega

theorem scat_eq : ∀ N ≤ 256, ∀ m < 4096,
    (∃ j < 16 * N, cnt (before C j) < cnt (C j * 8192) ∧ cnt (before C j) = m ∧ (scatN c N (ix1 m) : BitVec 32).toNat = j)
    ∨ ((∀ j < 16 * N, cnt (before C j) < cnt (C j * 8192) → cnt (before C j) ≠ m) ∧ (scatN c N (ix1 m) : BitVec 32).toNat = 0) := by
  intro N
  induction N with
  | zero => exact fun _ m _ => Or.inr ⟨fun j hj => by omega, show (0#32 : BitVec 32).toNat = 0 by decide⟩
  | succ N ih =>
    intro hN m hm
    have e : scatN c (N + 1) = scatStep c ⟨N, hN⟩ (scatN c N) := scatN_succ c ⟨N, hN⟩
    have pl : ∀ x : S16.Idx, actOf c ⟨N, hN⟩ x = 1 →
        (idxAt ![posOf c ⟨N, hN⟩] (posOf_inb c ⟨N, hN⟩) x = ix1 m ↔ cnt (before C (16 * N + (x 0).val)) = m) := fun x hx => by
      rw [at_ix1 _ _ x m hm, h.pos_eq ⟨N, hN⟩ x hx]
    rw [e]
    unfold scatStep
    rcases storeIdx_cases (scatN c N) ![posOf c ⟨N, hN⟩] (numOf ⟨N, hN⟩) (actOf c ⟨N, hN⟩) (posOf_inb c ⟨N, hN⟩) (ix1 m) with ⟨x, h1, h2, h3⟩ | ⟨h2, h3⟩
    · have hx : (x 0).val < 16 := (x 0).isLt
      refine Or.inl ⟨16 * N + (x 0).val, by omega, (h.act_iff ⟨N, hN⟩ x).1 h1, (pl x h1).1 h2, ?_⟩
      rw [h3, numOf_val]
    · rw [h3]
      rcases ih (by omega) m hm with ⟨j, hj, g1, g2, g3⟩ | ⟨g1, g2⟩
      · exact Or.inl ⟨j, by omega, g1, g2, g3⟩
      · refine Or.inr ⟨fun j hj ha => ?_, g2⟩
        by_cases hlt : j < 16 * N
        · exact g1 j hlt ha
        · intro hh
          have hl : 16 * N + (lane (j - 16 * N) 0).val = j := by
            show 16 * N + (j - 16 * N) % 16 = j
            rw [Nat.mod_eq_of_lt (by omega)]; omega
          have ha' : actOf c ⟨N, hN⟩ (lane (j - 16 * N)) = 1 := (h.act_iff ⟨N, hN⟩ _).2 (by
            show cnt (before C (16 * N + _)) < cnt (C (16 * N + _) * 8192)
            rw [hl]; exact ha)
          exact h2 _ ha' ((pl _ ha').2 (by rw [hl]; exact hh))

/-! ## The running maximum -/

theorem cnt_mono {i j : ℕ} (hij : i ≤ j) (hj : j < 4096) : cnt (C i * 8192) ≤ cnt (C j * 8192) :=
  Cert.Proof.Resample.cnt_mono (h.cur_range (by omega)).1 (mul_le_mul_of_nonneg_right (h.mono i j hij hj) (by norm_num))

theorem idx_le (n : ℕ) (hn : n < 4096) (J : ℕ) (hJ : J < 4096) (h1 : n < cnt (C J * 8192)) (h2 : ∀ j < J, ¬ n < cnt (C j * 8192)) (M : ℕ) :
    (idxOf c (ix1 n) : BitVec 32).toNat ≤ M ↔ J ≤ M := by
  rw [idxOf_le c n hn]
  have late : ∀ j < 4096, J < j → n < cnt (before C j) := fun j hj hlt => by
    unfold before
    rw [if_neg (by omega)]
    exact lt_of_lt_of_le h1 (h.cnt_mono (by omega) (by omega))
  constructor
  · intro hh
    rcases Nat.eq_zero_or_pos J with h0 | hpos
    · omega
    · have eb : before C J = C (J - 1) * 8192 := if_neg (by omega)
      have hle : cnt (before C J) ≤ n := by rw [eb]; exact not_lt.1 (h2 (J - 1) (by omega))
      have hv := hh (cnt (before C J)) hle
      rcases h.scat_eq 256 le_rfl (cnt (before C J)) (by omega) with ⟨j, hj, g1, g2, g3⟩ | ⟨g1, g2⟩
      · rw [g3] at hv
        rcases lt_trichotomy j J with hlt | heq | hgt
        · exfalso
          have := h.cnt_mono (i := j) (j := J - 1) (by omega) (by omega)
          rw [← eb] at this
          omega
        · omega
        · exfalso
          have := late j (by omega) hgt
          omega
      · exact absurd rfl (g1 J (by omega) (by omega))
  · intro hM m hm
    rcases h.scat_eq 256 le_rfl m (by omega) with ⟨j, hj, g1, g2, g3⟩ | ⟨g1, g2⟩
    · rw [g3]
      by_contra hc
      have := late j (by omega) (by omega)
      omega
    · omega

/-- The index at output position `n` is the number of cumulative weights below the position's midpoint. -/
theorem idx_eq (n : ℕ) (hn : n < 4096) :
    (idxOf c (ix1 n) : BitVec 32).toNat = ((Finset.range 4096).filter fun j => C j < ((n : ℝ) + 1 / 2) / 4096).card
    ∧ ((Finset.range 4096).filter fun j => C j < ((n : ℝ) + 1 / 2) / 4096).card < 4096 := by
  classical
  have hlast : n < cnt (C 4095 * 8192) := by
    rw [h.last, lt_cnt (by norm_num)]
    have : (n : ℝ) ≤ 4095 := by exact_mod_cast (by omega : n ≤ 4095)
    linarith
  have hex : ∃ j, n < cnt (C j * 8192) := ⟨4095, hlast⟩
  have hJ : Nat.find hex < 4096 := lt_of_le_of_lt (Nat.find_min' hex hlast) (by decide)
  have h1 := Nat.find_spec hex
  have h2 : ∀ j < Nat.find hex, ¬ n < cnt (C j * 8192) := fun j hj => Nat.find_min hex hj
  generalize Nat.find hex = J at hJ h1 h2
  have hset : ((Finset.range 4096).filter fun j => C j < ((n : ℝ) + 1 / 2) / 4096) = Finset.range J := by
    ext j
    rw [Finset.mem_filter, Finset.mem_range, Finset.mem_range]
    constructor
    · rintro ⟨hj, hlt⟩
      by_contra hc
      have := lt_of_lt_of_le h1 (h.cnt_mono (i := J) (j := j) (by omega) hj)
      rw [lt_cnt (h.cur_range hj).1] at this
      linarith
    · intro hj
      refine ⟨by omega, ?_⟩
      have := h2 j hj
      rw [lt_cnt (h.cur_range (by omega)).1] at this
      linarith
  rw [hset, Finset.card_range]
  exact ⟨le_antisymm ((h.idx_le n hn J hJ h1 h2 J).2 le_rfl) ((h.idx_le n hn J hJ h1 h2 _).1 le_rfl), hJ⟩

end IsCdf

end Cert.Proof.Resample
-- ==== Proof.Lookup.lean ====
/-
  What the reference computes, read at one index over the extended reals, where the weights are real and not negative: its
  cumulative weights of a batch to resample are real numbers that do not decrease and end at one, its count of those below
  an output position's midpoint is a word below 4096, and the state it returns is the one that count names.
-/
module

public import proofs.«01_k».proof.Proof.Ref
public import proofs.«01_k».proof.Proof.Arrays
public import proofs.«01_k».proof.Proof.Index
public import Idealize.ShloMosaic.Lib.IdealHost

@[expose] public section

noncomputable section

namespace Cert.Proof.Resample.Spec

open Cert.ReferenceIdeal Cert.ReferenceIdeal.Gen
open Idealize.ShloMosaic hiding ix0 ix1 ix2 ix3
open Idealize.ShloMosaic.ValueIdx (ix0 eq_ix0)
open Idealize.ShloMosaic.Routing (shape0 shape1 shape2 shape3)

-- an index by its coordinates
local notation "i1" => ValueIdx.ix1
local notation "i2" => ValueIdx.ix2
local notation "i3" => ValueIdx.ix3

theorem select_pos {s : Shape} {α : Type} {c : IVec s 1} {x y : s.Idx → α} {i : s.Idx} (h : c i = 1#1) : select c x y i = x i := if_pos h
theorem ne256 : ¬ (256 : ℕ) = 1 := by decide
theorem ne4096 : ¬ (4096 : ℕ) = 1 := by decide

/-- The weights are real numbers, none negative. -/
structure Good (w : FVec Ideal S256x4096 .f32) : Prop where
  nonneg : ∀ i, (0 : EReal) ≤ w i
  finite : ∀ i, w i < (⊤ : EReal)

/-- Weight `i` of batch `p`, as a real number. -/
def wn (w : FVec Ideal S256x4096 .f32) (p : Fin 256) (i : ℕ) : ℝ :=
  if h : i < 4096 then EReal.toReal (w (i2 p ⟨i, h⟩)) else 0

/-- The sum of the batch's weights up to `j`. -/
def cum (w : FVec Ideal S256x4096 .f32) (p : Fin 256) (j : ℕ) : ℝ := ∑ i ∈ Finset.range (j + 1), wn w p i

section
variable {w : FVec Ideal S256x4096 .f32}

theorem Good.at (g : Good w) (p : Fin 256) (i : Fin 4096) : w (i2 p i) = ((wn w p i.val : ℝ) : EReal) := by
  unfold wn
  rw [dif_pos i.isLt]
  exact (EReal.coe_toReal (g.finite _).ne (fun h => absurd (h ▸ g.nonneg (i2 p i)) (by simp))).symm

theorem Good.wn_nonneg (g : Good w) (p : Fin 256) (i : ℕ) : 0 ≤ wn w p i := by
  unfold wn
  split
  · exact EReal.toReal_nonneg (g.nonneg _)
  · exact le_rfl

theorem Good.cum_mono (g : Good w) (p : Fin 256) {i j : ℕ} (h : i ≤ j) : cum w p i ≤ cum w p j :=
  Finset.sum_le_sum_of_subset_of_nonneg (Finset.range_subset_range.2 (by omega)) fun k _ _ => g.wn_nonneg p k

theorem Good.cum_nonneg (g : Good w) (p : Fin 256) (j : ℕ) : 0 ≤ cum w p j := Finset.sum_nonneg fun k _ => g.wn_nonneg p k

theorem Good.sum_at (g : Good w) (p : Fin 256) (j : Fin 4096) : sumR w (i2 p j) = ((cum w p j.val : ℝ) : EReal) :=
  Arr.cumsum_f (B := 256) (N := 4096) (K := 4095) rfl w (wn w p) p (fun i => g.at p i) _ c_zero
    reduceWindows_S256x4096_S256x4096_w1s1p0_0_w4096s1p4095_0 h_S_ j

theorem div_at {s : Shape} (x y : FVec Ideal s .f32) (i : s.Idx) : Host.divf x y i = Ideal.div (x i) (y i) := rfl

theorem last_at (x : FVec Ideal S256x4096 .f32) (p : Fin 256) (j : Fin 4096) :
    broadcastInDim S256x4096 ![0, 1] bcast_S256x1_S256x4096_0_1 (extractStridedSlice S256x1 ![0, 4095] x slices_S256x4096_S256x1_0_4095) (i2 p j)
      = x (i2 p ⟨4095, by decide⟩) := by
  refine (broadcastInDim_apply _ _ _ _ (i2 p (0 : Fin 1)) fun a => ?_).trans ?_
  · match a with
    | ⟨0, _⟩ => exact (if_neg ne256).symm
    | ⟨1, _⟩ => exact (if_pos rfl).symm
  · unfold extractStridedSlice
    refine congrArg x (funext fun a => Fin.ext ?_)
    match a with
    | ⟨0, _⟩ => exact Nat.zero_add _
    | ⟨1, _⟩ => rfl

theorem cdf_at (p : Fin 256) (j : Fin 4096) : cdfR w (i2 p j) = Ideal.div (sumR w (i2 p j)) (sumR w (i2 p ⟨4095, by decide⟩)) := by
  unfold cdfR
  rw [div_at, last_at]

/-- A batch that is resampled has a weight that is not zero. -/
theorem Good.pos (g : Good w) (p : Fin 256) (hm : maskR w (i1 p) = 1#1) : 0 < cum w p 4095 := by
  by_contra hc
  have h0 : ∀ i : Fin 4096, w (i2 p i) = (0 : EReal) := fun i => by
    have hz : cum w p 4095 = 0 := le_antisymm (not_lt.1 hc) (g.cum_nonneg p _)
    have := (Finset.sum_eq_zero_iff_of_nonneg (fun k _ => g.wn_nonneg p k)).1 hz i.val (Finset.mem_range.2 i.isLt)
    rw [g.at p i, this, EReal.coe_zero]
  have hs : Host.reduceAdd (mulf w w) (constant S_ .f32 0x00000000#32) reducesTo_S256x4096_S256_d1 h_S_ (i1 p) = (0 : EReal) := by
    refine (Ideal.hostReduceAdd_r2_a1 reducesTo_S256x4096_S256_d1 (mulf w w) (Ideal.ofBits .f32 0x00000000#32) (i1 p)).trans ?_
    rw [c_zero, EReal.coe_zero, zero_add]
    refine Finset.sum_eq_zero fun k _ => ?_
    have := h0 k
    show (w _ * w _ : EReal) = 0
    rw [ix2_eq_valueIdx]
    exact (congrArg₂ (fun a b : EReal => a * b) this this).trans (by simp)
  have hx : maskR w (i1 p) = Ideal.cmp .olt (Ideal.div (Ideal.ofBits .f32 0x3F800000#32)
      (Host.reduceAdd (mulf w w) (constant S_ .f32 0x00000000#32) reducesTo_S256x4096_S256_d1 h_S_ (i1 p))) (Ideal.ofBits .f32 0x45000000#32) := rfl
  rw [hx, hs, c_one, c_2048] at hm
  unfold Ideal.div at hm
  rw [if_pos rfl, if_pos (by norm_num)] at hm
  simp [Ideal.cmp] at hm

/-- The cumulative weights of a batch that is resampled. -/
theorem Good.cdf_eq (g : Good w) (p : Fin 256) (hm : maskR w (i1 p) = 1#1) (j : Fin 4096) :
    cdfR w (i2 p j) = ((cum w p j.val / cum w p 4095 : ℝ) : EReal) := by
  have hp := g.pos p hm
  rw [cdf_at, g.sum_at, g.sum_at]
  show Ideal.div ((cum w p j.val : ℝ) : EReal) ((cum w p 4095 : ℝ) : EReal) = _
  rw [Ideal.div_coe hp.ne', ← EReal.coe_mul, mul_one_div]

theorem Good.isCdf (g : Good w) (p : Fin 256) (hm : maskR w (i1 p) = 1#1) (c : Vec Ideal Cert.KernelIdeal.S32x128 .f32)
    (hc : ∀ (j : ℕ) (h : j < 4096), c (cellAt j) = cdfR w (i2 p ⟨j, h⟩)) : IsCdf c fun j => cum w p j / cum w p 4095 := by
  have hp := g.pos p hm
  exact {
    val := fun j hj => (hc j hj).trans (g.cdf_eq p hm ⟨j, hj⟩)
    nonneg := fun j _ => div_nonneg (g.cum_nonneg p j) hp.le
    mono := fun i j hij _ => div_le_div_of_nonneg_right (g.cum_mono p hij) hp.le
    last := div_self hp.ne' }

theorem pts_at (q : Fin 4096) : (ptsR : FVec Ideal S4096 .f32) (i1 q) = ((((q.val : ℝ) + 1 / 2) / 4096 : ℝ) : EReal) := by
  show Ideal.div (((((BitVec.ofNat 32 q.val).toInt : ℤ) : ℝ) : EReal) + Ideal.ofBits .f32 0x3F000000#32) (Ideal.ofBits .f32 0x45800000#32) = _
  rw [StableHlo.Predicate.toInt_ofNat_small _ (by omega), c_half, c_4096, ← EReal.coe_add, Ideal.div_coe (by norm_num), ← EReal.coe_mul, mul_one_div]
  norm_num

/-- The reference's count at batch `p` and output position `q`. -/
theorem Good.cnt_at (g : Good w) (p : Fin 256) (hm : maskR w (i1 p) = 1#1) (q : Fin 4096) :
    (cntR w (i2 p q)).toNat = ((Finset.range 4096).filter fun j => cum w p j / cum w p 4095 < ((q.val : ℝ) + 1 / 2) / 4096).card := by
  classical
  refine Arr.count_last (a := 256) (b := 4096) (n := 4096) (by norm_num) _ natLt_1_32 reducesTo_S256x4096x4096_S256x4096_d2 h_S_ p q _ fun k => ?_
  have e1 : broadcastInDim S256x4096x4096 ![0, 1, 2] bcast_S256x1x4096_S256x4096x4096_0_1_2 (broadcastInDim S256x1x4096 ![0, 2] bcast_S256x4096_S256x1x4096_0_2 (cdfR w)) (i3 p q k)
      = cdfR w (i2 p k) := by
    refine (broadcastInDim_apply _ _ _ _ (i3 p (0 : Fin 1) k) fun a => ?_).trans (broadcastInDim_apply _ _ _ _ (i2 p k) fun a => ?_)
    · match a with
      | ⟨0, _⟩ => first | exact (if_neg ne256).symm | exact (if_neg ne4096).symm
      | ⟨1, _⟩ => exact (if_pos rfl).symm
      | ⟨2, _⟩ => first | exact (if_neg ne256).symm | exact (if_neg ne4096).symm
    · match a with
      | ⟨0, _⟩ => first | exact (if_neg ne256).symm | exact (if_neg ne4096).symm
      | ⟨1, _⟩ => first | exact (if_neg ne256).symm | exact (if_neg ne4096).symm
  have e2 : broadcastInDim S256x4096x4096 ![0, 1, 2] bcast_S1x4096x1_S256x4096x4096_0_1_2 (broadcastInDim S1x4096x1 ![1] bcast_S4096_S1x4096x1_1 (ptsR (F := Ideal))) (i3 p q k)
      = ptsR (F := Ideal) (i1 q) := by
    refine (broadcastInDim_apply _ _ _ _ (i3 (0 : Fin 1) q (0 : Fin 1)) fun a => ?_).trans (broadcastInDim_apply _ _ _ _ (i1 q) fun a => ?_)
    · match a with
      | ⟨0, _⟩ => exact (if_pos rfl).symm
      | ⟨1, _⟩ => first | exact (if_neg ne256).symm | exact (if_neg ne4096).symm
      | ⟨2, _⟩ => exact (if_pos rfl).symm
    · match a with
      | ⟨0, _⟩ => first | exact (if_neg ne256).symm | exact (if_neg ne4096).symm
  show Ideal.cmp .olt _ _ = 1#1 ↔ _
  rw [e1, e2, g.cdf_eq p hm, pts_at]
  simp only [Ideal.cmp, EReal.coe_lt_coe_iff]
  rw [StableHlo.Predicate.ofBool_eq_one_iff, decide_eq_true_iff]

/-! ## The results at an index -/

/-- A word below 4096, counted from the end where negative, is itself, and passes the range check. -/
theorem wrap_small (i : IVec S256x4096x1 32) (x : S256x4096x1.Idx) (h : (i x).toNat < 4096) : wrapR i x = i x := by
  have e : IntOp.cmpi .slt (i x) 0#32 = 0#1 := by
    show BitVec.ofBool ((i x).slt 0#32) = 0#1
    rw [slt_small (by omega) (by decide)]
    simp
  show (if IntOp.cmpi .slt (i x) 0#32 = 1#1 then IntOp.addi (i x) 4096#32 else i x) = i x
  rw [e, if_neg (by decide)]

theorem take_at (st : FVec Ideal S256x4096x32 .f32) (i : IVec S256x4096x1 32) (p : Fin 256) (q : Fin 4096) (r : Fin 32) (J : Fin 4096)
    (h : i (i3 p q (0 : Fin 1)) = BitVec.ofNat 32 J.val) : takeR st i (i3 p q r) = st (i3 p J r) := by
  have hJ := J.isLt
  have hn : (i (i3 p q (0 : Fin 1))).toNat = J.val := by rw [h, BitVec.toNat_ofNat]; omega
  have hw := wrap_small i (i3 p q (0 : Fin 1)) (by omega)
  have e1 : IntOp.cmpi .sge (BitVec.ofNat 32 J.val) 0#32 = 1#1 := by
    show BitVec.ofBool ((0#32 : BitVec 32).sle (BitVec.ofNat 32 J.val)) = 1#1
    rw [BitVec.sle_eq_decide, StableHlo.Predicate.ofBool_eq_one_iff, decide_eq_true_iff]
    show (0 : ℤ) ≤ _
    rw [StableHlo.Predicate.toInt_ofNat_small _ (by omega)]
    omega
  have e2 : IntOp.cmpi .sle (BitVec.ofNat 32 J.val) 4095#32 = 1#1 := by
    show BitVec.ofBool ((BitVec.ofNat 32 J.val).sle 4095#32) = 1#1
    rw [BitVec.sle_eq_decide, StableHlo.Predicate.toInt_ofNat_small _ (by omega), StableHlo.Predicate.ofBool_eq_one_iff, decide_eq_true_iff]
    show (J.val : ℤ) ≤ 4095
    omega
  have hmask : (broadcastInDim S256x4096x32 ![0, 1] bcast_S256x4096_S256x4096x32_0_1
      (Host.reduce IntOp.andi (andi (cmpi .sge (wrapR i) (broadcastInDim S256x4096x1 ![] bcast_S_S256x4096x1 (constantI S_ 32 0#32)))
        (cmpi .sle (wrapR i) (broadcastInDim S256x4096x1 ![0, 1, 2] bcast_S1x1x1_S256x4096x1_0_1_2 (broadcastInDim S1x1x1 ![2] bcast_S1_S1x1x1_2 (constantI S1 32 4095#32)))))
        (constantI S_ 1 1#1) reducesTo_S256x4096x1_S256x4096_d2 h_S_)) (i3 p q r) = 1#1 := by
    refine (broadcastInDim_apply _ _ _ _ (i2 p q) fun a => ?_).trans (Arr.all_last (a := 256) (b := 4096) _ reducesTo_S256x4096x1_S256x4096_d2 h_S_ p q ?_)
    · match a with
      | ⟨0, _⟩ => first | exact (if_neg ne256).symm | exact (if_neg ne4096).symm
      | ⟨1, _⟩ => first | exact (if_neg ne256).symm | exact (if_neg ne4096).symm
    · show IntOp.andi (IntOp.cmpi .sge (wrapR i (i3 p q 0)) 0#32) (IntOp.cmpi .sle (wrapR i (i3 p q 0)) 4095#32) = 1#1
      rw [hw, h, e1, e2]; decide
  unfold takeR
  rw [select_pos hmask]
  exact Arr.gather_mid (B := 256) (N := 4096) (D := 32) gather_S256x4096x32_S256x4096x1_S256x4096x32_2_1_0_0_1_2_1132 rfl rfl rfl rfl rfl rfl st (wrapR i) p q r J
    (hw.trans h) (by norm_num)

theorem state_at (st : FVec Ideal S256x4096x32 .f32) (p : Fin 256) (q : Fin 4096) (r : Fin 32) :
    stateR st w (i3 p q r) = if maskR w (i1 p) = 1#1
      then takeR st (broadcastInDim S256x4096x1 ![0, 1] bcast_S256x4096_S256x4096x1_0_1 (cntR w)) (i3 p q r) else st (i3 p q r) := by
  have e : broadcastInDim S256x4096x32 ![0, 1, 2] bcast_S256x1x1_S256x4096x32_0_1_2 (broadcastInDim S256x1x1 ![0] bcast_S256_S256x1x1_0 (maskR w)) (i3 p q r)
      = maskR w (i1 p) := by
    refine (broadcastInDim_apply _ _ _ _ (i3 p (0 : Fin 1) (0 : Fin 1)) fun a => ?_).trans (broadcastInDim_apply _ _ _ _ (i1 p) fun a => ?_)
    · match a with
      | ⟨0, _⟩ => first | exact (if_neg ne256).symm | exact (if_neg ne4096).symm
      | ⟨1, _⟩ => exact (if_pos rfl).symm
      | ⟨2, _⟩ => exact (if_pos rfl).symm
    · match a with
      | ⟨0, _⟩ => first | exact (if_neg ne256).symm | exact (if_neg ne4096).symm
  unfold stateR
  exact if_congr (iff_of_eq (congrArg (· = 1#1) e)) rfl rfl

theorem weight_at (p : Fin 256) (q : Fin 4096) :
    weightR w (i2 p q) = if maskR w (i1 p) = 1#1 then Ideal.ofBits .f32 0x39800000#32 else w (i2 p q) := by
  have e : broadcastInDim S256x4096 ![0, 1] bcast_S256x1_S256x4096_0_1 (broadcastInDim S256x1 ![0] bcast_S256_S256x1_0 (maskR w)) (i2 p q) = maskR w (i1 p) := by
    refine (broadcastInDim_apply _ _ _ _ (i2 p (0 : Fin 1)) fun a => ?_).trans (broadcastInDim_apply _ _ _ _ (i1 p) fun a => ?_)
    · match a with
      | ⟨0, _⟩ => first | exact (if_neg ne256).symm | exact (if_neg ne4096).symm
      | ⟨1, _⟩ => exact (if_pos rfl).symm
    · match a with
      | ⟨0, _⟩ => first | exact (if_neg ne256).symm | exact (if_neg ne4096).symm
  unfold weightR
  exact if_congr (iff_of_eq (congrArg (· = 1#1) e)) rfl rfl

/-- Where the batch is resampled the state returned is the one the count names. -/
theorem Good.state_masked (g : Good w) (st : FVec Ideal S256x4096x32 .f32) (p : Fin 256) (hm : maskR w (i1 p) = 1#1) (q : Fin 4096) (r : Fin 32) (J : Fin 4096)
    (hJ : J.val = ((Finset.range 4096).filter fun j => cum w p j / cum w p 4095 < ((q.val : ℝ) + 1 / 2) / 4096).card) :
    stateR st w (i3 p q r) = st (i3 p J r) := by
  rw [state_at, if_pos hm]
  refine take_at st _ p q r J ?_
  have e : broadcastInDim S256x4096x1 ![0, 1] bcast_S256x4096_S256x4096x1_0_1 (cntR w) (i3 p q (0 : Fin 1)) = cntR w (i2 p q) := by
    refine broadcastInDim_apply _ _ _ _ (i2 p q) fun a => ?_
    match a with
    | ⟨0, _⟩ => first | exact (if_neg ne256).symm | exact (if_neg ne4096).symm
    | ⟨1, _⟩ => first | exact (if_neg ne256).symm | exact (if_neg ne4096).symm
  rw [e]
  apply BitVec.eq_of_toNat_eq
  rw [g.cnt_at p hm q, ← hJ, BitVec.toNat_ofNat]
  have := J.isLt
  omega

end

end Cert.Proof.Resample.Spec

end
-- ==== Proof.Equal.lean ====
/-
  The kernel's two results and the reference's two are the same functions of the two arguments, over the extended reals, where
  the weights are real and not negative: read at a batch, a position and, of the states, a component.
-/
module

public import proofs.«01_k».proof.Proof.Values
public import proofs.«01_k».proof.Proof.Lookup

@[expose] public section

noncomputable section

namespace Cert.Proof.Resample

open Cert.KernelIdeal Cert.KernelIdeal.Gen
open Idealize.ShloMosaic hiding ix0 ix1 ix2 ix3

-- an index by its coordinates
local notation "i1" => ValueIdx.ix1
local notation "i2" => ValueIdx.ix2
local notation "i3" => ValueIdx.ix3

/-! ## The coordinates of an index the kernel's arrays are read at -/

theorem ix8_at {i j k : ℕ} (hi : i < 8192) (hj : j < 32) (hk : k < 128) :
    ((ix8 i j k) 0).val = i ∧ ((ix8 i j k) 1).val = j ∧ ((ix8 i j k) 2).val = k :=
  ⟨Nat.mod_eq_of_lt hi, Nat.mod_eq_of_lt hj, Nat.mod_eq_of_lt hk⟩

theorem ixw_at {i j k : ℕ} (hi : i < 256) (hj : j < 32) (hk : k < 128) :
    ((ixw i j k) 0).val = i ∧ ((ixw i j k) 1).val = j ∧ ((ixw i j k) 2).val = k :=
  ⟨Nat.mod_eq_of_lt hi, Nat.mod_eq_of_lt hj, Nat.mod_eq_of_lt hk⟩

theorem cellAt_at {j : ℕ} (hj : j < 4096) : ((cellAt j) 0).val = j / 128 ∧ ((cellAt j) 1).val = j % 128 :=
  ⟨Nat.mod_eq_of_lt (show j / 128 < 32 by omega), Nat.mod_eq_of_lt (show j % 128 < 128 by omega)⟩

theorem m1_i1 (p : Fin 256) : m1 p.val = i1 p := by
  funext a
  match a with
  | ⟨0, _⟩ => exact Fin.ext (Nat.mod_eq_of_lt p.isLt)

/-! ## The arrays the call reads, at such an index -/

/-- The states, batch by component by position. -/
abbrev arrS (st : FVec Ideal S256x4096x32 .f32) : FVec Ideal S8192x32x128 .f32 :=
  shapeCast S8192x32x128 (transpose S256x32x4096 [0, 2, 1] st transposes_S256x4096x32_S256x32x4096_0_2_1) shapeCasts_S256x32x4096_S8192x32x128

/-- A row of numbers a batch, in blocks of 128. -/
abbrev arrW (w : FVec Ideal S256x4096 .f32) : FVec Ideal S256x32x128 .f32 := shapeCast S256x32x128 w shapeCasts_S256x4096_S256x32x128

theorem arrS_at (st : FVec Ideal S256x4096x32 .f32) (p : Fin 256) (J : Fin 4096) (r : Fin 32) :
    arrS st (ix8 (32 * p.val + r.val) (J.val / 128) (J.val % 128)) = st (i3 p J r) := by
  have hp := p.isLt
  have hJ := J.isLt
  have hr := r.isLt
  obtain ⟨h0, h1, h2⟩ := ix8_at (i := 32 * p.val + r.val) (j := J.val / 128) (k := J.val % 128) (by omega) (by omega) (by omega)
  refine (shapeCast_apply _ _ _ (i3 p r J) ?_).trans (transpose_apply _ _ _ _ (i3 p J r) fun b => ?_)
  · rw [Shape.rowMajor_val_three, Shape.rowMajor_val_three]
    show (p.val * 32 + r.val) * 4096 + J.val = (((ix8 _ _ _) 0).val * 32 + ((ix8 _ _ _) 1).val) * 128 + ((ix8 _ _ _) 2).val
    rw [h0, h1, h2]
    omega
  · match b with
    | ⟨0, _⟩ => rfl
    | ⟨1, _⟩ => rfl
    | ⟨2, _⟩ => rfl

theorem arrW_at (w : FVec Ideal S256x4096 .f32) (p : Fin 256) (J : Fin 4096) : arrW w (ixw p.val (J.val / 128) (J.val % 128)) = w (i2 p J) := by
  have hp := p.isLt
  have hJ := J.isLt
  obtain ⟨h0, h1, h2⟩ := ixw_at (i := p.val) (j := J.val / 128) (k := J.val % 128) (by omega) (by omega) (by omega)
  refine shapeCast_apply _ _ _ (i2 p J) ?_
  rw [Shape.rowMajor_val_two, Shape.rowMajor_val_three]
  show p.val * 4096 + J.val = (((ixw _ _ _) 0).val * 32 + ((ixw _ _ _) 1).val) * 128 + ((ixw _ _ _) 2).val
  rw [h0, h1, h2]
  omega

/-- The cumulative weights the kernel works from are the reference's. -/
theorem cdf_ref (w : FVec Ideal S256x4096 .f32) : cdfV w = Spec.cdfR w := rfl
theorem mask_ref (w : FVec Ideal S256x4096 .f32) : maskV w = Spec.maskR w := rfl

/-- The mask's word at a batch. -/
theorem word_at (w : FVec Ideal S256x4096 .f32) (p : Fin 256) :
    (extui 32 (maskV w) natLt_1_32 : S256.Idx → BitVec 32) (m1 p.val) = 0#32 ↔ ¬ Spec.maskR w (i1 p) = 1#1 := by
  rw [m1_i1, ← mask_ref]
  show (maskV w (i1 p)).setWidth 32 = 0#32 ↔ _
  generalize maskV w (i1 p) = b
  revert b
  decide

theorem row_at (w : FVec Ideal S256x4096 .f32) (p : Fin 256) (j : ℕ) (h : j < 4096) :
    rowOf (arrW (cdfV w)) p.val (cellAt j) = Spec.cdfR w (i2 p ⟨j, h⟩) := by
  obtain ⟨h0, h1⟩ := cellAt_at h
  unfold rowOf
  rw [h0, h1]
  exact (arrW_at (cdfV w) p ⟨j, h⟩).trans (congrFun (cdf_ref w) _)

/-! ## The results -/

theorem states_eq (st : FVec Ideal S256x4096x32 .f32) (w : FVec Ideal S256x4096 .f32) (g : Spec.Good w) :
    transpose S256x4096x32 [0, 2, 1] (shapeCast S256x32x4096 (outS (arrS st) (arrW (cdfV w)) (extui 32 (maskV w) natLt_1_32)) shapeCasts_S8192x32x128_S256x32x4096)
      transposes_S256x32x4096_S256x4096x32_0_2_1 = Spec.stateR st w := by
  funext y
  obtain ⟨p, q, r, rfl⟩ : ∃ (p : Fin 256) (q : Fin 4096) (r : Fin 32), y = i3 p q r := ⟨y 0, y 1, y 2, ValueIdx.eq_ix3 y⟩
  have hp := p.isLt
  have hq := q.isLt
  have hr := r.isLt
  obtain ⟨h0, h1, h2⟩ := ix8_at (i := 32 * p.val + r.val) (j := q.val / 128) (k := q.val % 128) (by omega) (by omega) (by omega)
  refine (transpose_apply _ _ _ _ (i3 p r q) fun b => ?_).trans ((shapeCast_apply _ _ _ (ix8 (32 * p.val + r.val) (q.val / 128) (q.val % 128)) ?_).trans ?_)
  · match b with
    | ⟨0, _⟩ => rfl
    | ⟨1, _⟩ => rfl
    | ⟨2, _⟩ => rfl
  · rw [Shape.rowMajor_val_three, Shape.rowMajor_val_three]
    show (((ix8 _ _ _) 0).val * 32 + ((ix8 _ _ _) 1).val) * 128 + ((ix8 _ _ _) 2).val = (p.val * 32 + r.val) * 4096 + q.val
    rw [h0, h1, h2]
    omega
  · unfold outS
    rw [h0, show (32 * p.val + r.val) / 32 = p.val by omega]
    by_cases hm : Spec.maskR w (i1 p) = 1#1
    · rw [if_neg (fun h => (word_at w p).1 h hm)]
      unfold gatS
      rw [h0, h1, h2, show 128 * (q.val / 128) + q.val % 128 = q.val by omega]
      have hi := (g.isCdf p hm (rowOf (arrW (cdfV w)) p.val) (row_at w p)).idx_eq q.val hq
      have hJ : (idxB (arrW (cdfV w)) p.val (ix1 q.val) : BitVec 32).toNat = _ := hi.1
      rw [hJ, g.state_masked st p hm q r ⟨_, hi.2⟩ rfl]
      exact arrS_at st p ⟨_, hi.2⟩ r
    · rw [if_pos ((word_at w p).2 hm), Spec.state_at, if_neg hm]
      exact arrS_at st p q r

theorem weights_eq (w : FVec Ideal S256x4096 .f32) :
    shapeCast S256x4096 (outW (arrW w) (extui 32 (maskV w) natLt_1_32)) shapeCasts_S256x32x128_S256x4096 = Spec.weightR w := by
  funext y
  obtain ⟨p, q, rfl⟩ : ∃ (p : Fin 256) (q : Fin 4096), y = i2 p q := ⟨y 0, y 1, ValueIdx.eq_ix2 y⟩
  have hp := p.isLt
  have hq := q.isLt
  obtain ⟨h0, h1, h2⟩ := ixw_at (i := p.val) (j := q.val / 128) (k := q.val % 128) (by omega) (by omega) (by omega)
  refine (shapeCast_apply _ _ _ (ixw p.val (q.val / 128) (q.val % 128)) ?_).trans ?_
  · rw [Shape.rowMajor_val_two, Shape.rowMajor_val_three]
    show (((ixw _ _ _) 0).val * 32 + ((ixw _ _ _) 1).val) * 128 + ((ixw _ _ _) 2).val = p.val * 4096 + q.val
    rw [h0, h1, h2]
    omega
  · unfold outW
    rw [h0, Spec.weight_at]
    by_cases hm : Spec.maskR w (i1 p) = 1#1
    · rw [if_neg (fun h => (word_at w p).1 h hm), if_pos hm]
      rfl
    · rw [if_pos ((word_at w p).2 hm), if_neg hm]
      exact arrW_at w p q

/-! ## The two runs -/

theorem resS_eq (m : (ℓ : Loc nD τ sig) → Buf (Elt Ideal) ℓ) (d : Dev nD) (g : Spec.Good (arg1 m d)) :
    transpose S256x4096x32 [0, 2, 1] (shapeCast S256x32x4096 (resS m d) shapeCasts_S8192x32x128_S256x32x4096) transposes_S256x32x4096_S256x4096x32_0_2_1
      = Spec.stateR (arg0 m d) (arg1 m d) := by
  have e : resS m d = outS (arrS (arg0 m d)) (arrW (cdfV (arg1 m d))) (extui 32 (maskV (arg1 m d)) natLt_1_32) :=
    congr (congrArg₂ (outS (F := Ideal)) (VA_st m d) (VA_cdf m d)) (VA_mask m d)
  rw [e]
  exact states_eq _ _ g

theorem resW_eq (m : (ℓ : Loc nD τ sig) → Buf (Elt Ideal) ℓ) (d : Dev nD) :
    shapeCast S256x4096 (resW m d) shapeCasts_S256x32x128_S256x4096 = Spec.weightR (arg1 m d) := by
  have e : resW m d = outW (arrW (arg1 m d)) (extui 32 (maskV (arg1 m d)) natLt_1_32) :=
    congrArg₂ (outW (F := Ideal)) (VA_wt m d) (VA_mask m d)
  rw [e]
  exact weights_eq _

end Cert.Proof.Resample

end
-- ==== Proof.Same.lean ====
/-
  The frames under the precondition, and the value claim: on arguments the precondition holds of, the program and the reference end with the same
  two results.
-/
module

public import proofs.«01_k».proof.Proof.Frames
public import proofs.«01_k».proof.Proof.Equal

@[expose] public section

noncomputable section

namespace Cert.Proof.Resample

open Idealize.ShloMosaic Idealize.SL.Sem

theorem pre_facts : Cert.Pre_weights_ok.Facts where
  bcast_S_S256x4096 := by decide

/-- What the precondition says of the weights. -/
theorem good_of_pre (st : FVec Ideal Cert.Pre_weights_ok.S256x4096x32 .f32) (w : FVec Ideal Cert.Pre_weights_ok.S256x4096 .f32)
    (h : haveI := pre_facts; Cert.Pre_weights_ok.fn (F := Ideal) st w = fun _ => 1#1) : Spec.Good w := by
  have hinf : Ideal.ofBits .f32 0x7F800000#32 = (⊤ : EReal) := by simp [Ideal.ofBits, Ideal.ieee]
  have hb : ∀ a b : BitVec 1, IntOp.andi a b = 1#1 → a = 1#1 ∧ b = 1#1 := by decide
  have hi : ∀ i, (0 : EReal) ≤ w i ∧ w i < (⊤ : EReal) := fun i => by
    have e : IntOp.andi (Ideal.cmp .oge (w i) (Ideal.ofBits .f32 0x00000000#32)) (Ideal.cmp .olt (w i) (Ideal.ofBits .f32 0x7F800000#32)) = 1#1 := congrFun h i
    obtain ⟨h1, h2⟩ := hb _ _ e
    rw [Ideal.ofBits_zero_f32] at h1
    rw [hinf] at h2
    exact ⟨of_decide_eq_true ((StableHlo.Predicate.ofBool_eq_one_iff _).1 h1), of_decide_eq_true ((StableHlo.Predicate.ofBool_eq_one_iff _).1 h2)⟩
  exact ⟨fun i => (hi i).1, fun i => (hi i).2⟩

theorem frame_kernelIdeal_pre : Cert.quiescent_KernelIdeal_pre_weights_ok (hKernelIdeal := Cert.KernelIdeal.Gen.facts) (hPre_weights_ok := pre_facts) :=
  fun m ρ _ => frame_kernelIdeal m ρ trivial

theorem frame_reference_pre : Cert.quiescent_ReferenceIdeal_pre_weights_ok (hReferenceIdeal := Cert.ReferenceIdeal.Gen.facts) (hPre_weights_ok := pre_facts) :=
  fun m ρ _ => frame_reference m ρ trivial

theorem same : Cert.algebraic_KernelIdeal_ReferenceIdeal_pre_weights_ok (hKernelIdeal := Cert.KernelIdeal.Gen.facts)
    (hReferenceIdeal := Cert.ReferenceIdeal.Gen.facts) (hPre_weights_ok := pre_facts) := by
  intro m ρ m' ρ' hp hm
  have g : ∀ c, Spec.Good (arg1 m c) := fun c => good_of_pre _ _ (hp c)
  refine ⟨fun c => Spec.stateR (arg0 m c) (arg1 m c), fun c => Spec.weightR (arg1 m c), ?_, ?_⟩
  · exact (θ_run Cert.KernelIdeal.defs _ _).mono (fun _ h c =>
      ⟨(h.1 c).1.trans (resS_eq m c (g c)), (h.1 c).2.1.trans (resW_eq m c), (h.1 c).2.2.1, (h.1 c).2.2.2⟩) (run_main (F := Ideal) m ρ)
  · exact (θ_run Cert.ReferenceIdeal.defs _ _).mono (fun _ h c =>
      ⟨(h.1 c).1.trans (congrArg₂ Spec.stateR (hm c).1 (hm c).2), (h.1 c).2.1.trans (congrArg Spec.weightR (hm c).2), (h.1 c).2.2.1, (h.1 c).2.2.2⟩)
      (Spec.run_main (F := Ideal) m' ρ')

end Cert.Proof.Resample

end
-- ==== Proof.lean ====
/-
  The certificate: the three frames, and the two of the same programs under the precondition; that the idealization changes no operation;
  and that the program's two results are the reference's.
-/
module

public import proofs.«01_k».proof.Proof.Same

@[expose] public section

noncomputable section

namespace Cert.Proof

open Cert.Proof.Resample

theorem claim : Cert.Claim :=
  ⟨Cert.Kernel.Gen.facts, Cert.KernelIdeal.Gen.facts, Cert.ReferenceIdeal.Gen.facts, pre_facts, frame_kernel, frame_kernelIdeal, frame_kernelIdeal_pre,
    frame_reference, frame_reference_pre, trivial, same⟩

end Cert.Proof

end
